-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_v32) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1152 : Shape := ⟨3, ![4, 8192, 1152]⟩
abbrev S4x8192x36 : Shape := ⟨3, ![4, 8192, 36]⟩
abbrev S_ : Shape := ⟨0, ![]⟩
abbrev S4x1152x8192 : Shape := ⟨3, ![4, 1152, 8192]⟩
abbrev S1x512x1152 : Shape := ⟨3, ![1, 512, 1152]⟩
abbrev S1x512x36 : Shape := ⟨3, ![1, 512, 36]⟩
abbrev S1x1152x512 : Shape := ⟨3, ![1, 1152, 512]⟩
abbrev S512x1152 : Shape := ⟨2, ![512, 1152]⟩
abbrev S512x36 : Shape := ⟨2, ![512, 36]⟩
abbrev S36x1152 : Shape := ⟨2, ![36, 1152]⟩
abbrev S1152x512 : Shape := ⟨2, ![1152, 512]⟩
abbrev S1 : Shape := ⟨1, ![1]⟩
abbrev S3 : Shape := ⟨1, ![3]⟩
abbrev S4x1x8192 : Shape := ⟨3, ![4, 1, 8192]⟩
abbrev S1x1152x1024 : Shape := ⟨3, ![1, 1152, 1024]⟩
abbrev S1x1x1024 : Shape := ⟨3, ![1, 1, 1024]⟩
abbrev S1x1024x1152 : Shape := ⟨3, ![1, 1024, 1152]⟩
abbrev S16x1152x512 : Shape := ⟨3, ![16, 1152, 512]⟩
abbrev S1152x1024 : Shape := ⟨2, ![1152, 1024]⟩
abbrev S512x1024 : Shape := ⟨2, ![512, 1024]⟩
abbrev S3x8x1024 : Shape := ⟨3, ![3, 8, 1024]⟩
abbrev S256x1024 : Shape := ⟨2, ![256, 1024]⟩
abbrev S1x256x1152 : Shape := ⟨3, ![1, 256, 1152]⟩
abbrev S256x1152 : Shape := ⟨2, ![256, 1152]⟩
abbrev S1x8x1024 : Shape := ⟨3, ![1, 8, 1024]⟩
abbrev S8x1024 : Shape := ⟨2, ![8, 1024]⟩
abbrev S32x8x1024 : Shape := ⟨3, ![32, 8, 1024]⟩
abbrev S1024x1152 : Shape := ⟨2, ![1024, 1152]⟩
abbrev S1024 : Shape := ⟨1, ![1024]⟩
abbrev S1x1024 : Shape := ⟨2, ![1, 1024]⟩
abbrev S4x8192 : Shape := ⟨2, ![4, 8192]⟩

abbrev nBuf : Space → Nat
  | .hbm => 23
  | .vmem => 32
  | .smem => 1
  | _ => 0

abbrev bufTy : (tb : Table) → Fin (tcTables nBuf tb) → BufTy
  | .hbm, ⟨0, _⟩ => ⟨S4x8192x1152, .fp8e4m3⟩
  | .hbm, ⟨1, _⟩ => ⟨S4x8192x36, .f32⟩
  | .hbm, ⟨2, _⟩ => ⟨S4x8192x1152, .fp8e4m3⟩
  | .hbm, ⟨3, _⟩ => ⟨S4x8192x36, .f32⟩
  | .hbm, ⟨4, _⟩ => ⟨S_, .f32⟩
  | .hbm, ⟨5, _⟩ => ⟨S_, .f32⟩
  | .hbm, ⟨6, _⟩ => ⟨S4x1152x8192, .bf16⟩
  | .hbm, ⟨7, _⟩ => ⟨S4x8192x1152, .bf16⟩
  | .hbm, ⟨8, _⟩ => ⟨S4x1152x8192, .bf16⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S3, .f32⟩
  | .hbm, ⟨15, _⟩ => ⟨S4x1x8192, .f32⟩
  | .hbm, ⟨16, _⟩ => ⟨S4x8192x1152, .bf16⟩
  | .hbm, ⟨17, _⟩ => ⟨S4x8192x1152, .bf16⟩
  | .hbm, ⟨18, _⟩ => ⟨S4x1x8192, .f32⟩
  | .hbm, ⟨19, _⟩ => ⟨S4x1x8192, .f32⟩
  | .hbm, ⟨20, _⟩ => ⟨S4x8192, .f32⟩
  | .hbm, ⟨21, _⟩ => ⟨S4x8192, .f32⟩
  | .hbm, ⟨22, _⟩ => ⟨S4x8192, .f32⟩
  | .local _ .vmem, ⟨0, _⟩ => ⟨S1x512x1152, .fp8e4m3⟩
  | .local _ .vmem, ⟨1, _⟩ => ⟨S1x512x1152, .fp8e4m3⟩
  | .local _ .vmem, ⟨2, _⟩ => ⟨S1x512x36, .f32⟩
  | .local _ .vmem, ⟨3, _⟩ => ⟨S1x512x36, .f32⟩
  | .local _ .vmem, ⟨4, _⟩ => ⟨S1x1152x512, .bf16⟩
  | .local _ .vmem, ⟨5, _⟩ => ⟨S1x1152x512, .bf16⟩
  | .local _ .vmem, ⟨6, _⟩ => ⟨S1x512x1152, .fp8e4m3⟩
  | .local _ .vmem, ⟨7, _⟩ => ⟨S1x512x1152, .fp8e4m3⟩
  | .local _ .vmem, ⟨8, _⟩ => ⟨S1x512x36, .f32⟩
  | .local _ .vmem, ⟨9, _⟩ => ⟨S1x512x36, .f32⟩
  | .local _ .vmem, ⟨10, _⟩ => ⟨S1x512x1152, .bf16⟩
  | .local _ .vmem, ⟨11, _⟩ => ⟨S1x512x1152, .bf16⟩
  | .local _ .vmem, ⟨12, _⟩ => ⟨S1x1152x512, .bf16⟩
  | .local _ .vmem, ⟨13, _⟩ => ⟨S1x1152x512, .bf16⟩
  | .local _ .vmem, ⟨14, _⟩ => ⟨S1x1152x1024, .bf16⟩
  | .local _ .vmem, ⟨15, _⟩ => ⟨S1x1152x1024, .bf16⟩
  | .local _ .vmem, ⟨16, _⟩ => ⟨S1x512x1152, .bf16⟩
  | .local _ .vmem, ⟨17, _⟩ => ⟨S1x512x1152, .bf16⟩
  | .local _ .vmem, ⟨18, _⟩ => ⟨S1x1152x512, .bf16⟩
  | .local _ .vmem, ⟨19, _⟩ => ⟨S1x1152x512, .bf16⟩
  | .local _ .vmem, ⟨20, _⟩ => ⟨S1x1x1024, .f32⟩
  | .local _ .vmem, ⟨21, _⟩ => ⟨S1x1x1024, .f32⟩
  | .local _ .vmem, ⟨22, _⟩ => ⟨S1x1024x1152, .bf16⟩
  | .local _ .vmem, ⟨23, _⟩ => ⟨S1x512x1152, .bf16⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S16x1152x512, .f32⟩
  | .local _ .vmem, ⟨29, _⟩ => ⟨S1152x1024, .f32⟩
  | .local _ .vmem, ⟨30, _⟩ => ⟨S512x1024, .bf16⟩
  | .local _ .vmem, ⟨31, _⟩ => ⟨S3x8x1024, .f32⟩
  | .local _ .smem, ⟨0, _⟩ => ⟨S3, .f32⟩
  | _, _ => ⟨S4x8192x1152, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc2_stg8_0 : Ref sig .tc := ⟨.vmem, 26, rfl⟩
abbrev cc2_stg8_1 : Ref sig .tc := ⟨.vmem, 27, rfl⟩
abbrev cc2_scratch0 : Ref sig .tc := ⟨.vmem, 28, rfl⟩
abbrev cc2_scratch1 : Ref sig .tc := ⟨.vmem, 29, rfl⟩
abbrev cc2_scratch2 : Ref sig .tc := ⟨.vmem, 30, rfl⟩
abbrev cc2_scratch3 : Ref sig .tc := ⟨.vmem, 31, rfl⟩
abbrev cc2_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem6_0 : DmaSem sig := 24
abbrev cc2_sem7_0 : DmaSem sig := 25
abbrev cc2_sem7_1 : DmaSem sig := 26
abbrev cc2_sem8_0 : DmaSem sig := 27
abbrev cc2_sem8_1 : DmaSem sig := 28

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1152 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x36 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1152x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x512x1152 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x36 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x1152 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1152x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![4, 8, 16], ![false, false, false]⟩

def k2_cond2 (i : grid2.Coords) : BitVec 1 :=
  let arg1 : BitVec 32 := BitVec.ofNat 32 (i 1).val
  let c0_i32_1 : BitVec 32 := 0#32
  let v6 : BitVec 1 := Scalar.cmpi .eq arg1 c0_i32_1
  let v7 : BitVec 32 := Scalar.extui v6
  let c0_i32_2 : BitVec 32 := 0#32
  let v8 : BitVec 1 := Scalar.cmpi .ne v7 c0_i32_2
  v8

def k2_off1 (i : grid2.Coords) : Fin 3 → Nat :=
  let arg2 : BitVec 32 := BitVec.ofNat 32 (i 2).val
  let v188 : Index := Scalar.indexCast arg2
  let c0_105 : Index := 0#32
  let c0_106 : Index := 0#32
  ![v188.toNat, 0, 0]
def k2_off2 (i : grid2.Coords) : Fin 3 → Nat :=
  let arg2 : BitVec 32 := BitVec.ofNat 32 (i 2).val
  let v170 : Index := Scalar.indexCast arg2
  let c0_94 : Index := 0#32
  let c0_95 : Index := 0#32
  ![v170.toNat, 0, 0]
def k2_cond4 (i : grid2.Coords) : BitVec 1 :=
  let arg1 : BitVec 32 := BitVec.ofNat 32 (i 1).val
  let c7_i32 : BitVec 32 := 7#32
  let v184 : BitVec 1 := Scalar.cmpi .eq arg1 c7_i32
  let v185 : BitVec 32 := Scalar.extui v184
  let c0_i32_103 : BitVec 32 := 0#32
  let v186 : BitVec 1 := Scalar.cmpi .ne v185 c0_i32_103
  v186

def k2_off3 (i : grid2.Coords) : Fin 3 → Nat :=
  let arg2 : BitVec 32 := BitVec.ofNat 32 (i 2).val
  let v188 : Index := Scalar.indexCast arg2
  let c0_104 : Index := 0#32
  let c0_105 : Index := 0#32
  ![v188.toNat, 0, 0]
def k2_cond3 (i : grid2.Coords) : BitVec 1 :=
  let arg2 : BitVec 32 := BitVec.ofNat 32 (i 2).val
  let c15_i32 : BitVec 32 := 15#32
  let v181 : BitVec 1 := Scalar.cmpi .eq arg2 c15_i32
  let v182 : BitVec 32 := Scalar.extui v181
  let c0_i32_102 : BitVec 32 := 0#32
  let v183 : BitVec 1 := Scalar.cmpi .ne v182 c0_i32_102
  v183

def cc2_transform_0 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 1 := Scalar.cmpi .eq arg1 c7_i32
  let c0_i32 : BitVec 32 := 0#32
  let v1 : BitVec 32 := Scalar.select v0 arg2 c0_i32
  let c0_i32_0 : BitVec 32 := 0#32
  let c0_i32_1 : BitVec 32 := 0#32
  ![arg0.toNat, v1.toNat, c0_i32_0.toNat]

def cc2_transform_7 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_8 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage2_0 : Fin 1 → Memref sig .tc .smem S3 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false, false]

abbrev stage2_1 : Fin 2 → Memref sig .tc .vmem S1x1152x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x512x1152 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x1152x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, true]

abbrev stage2_4 : Fin 2 → Memref sig .tc .vmem S1x1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 1 → Memref sig .tc .vmem S1x1024x1152 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true, true, false]

abbrev stage2_6 : Fin 1 → Memref sig .tc .vmem S1x512x1152 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true, true, true]

abbrev stage2_7 : Fin 2 → Memref sig .tc .vmem S1x1x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]

abbrev stage2_8 : Fin 2 → Memref sig .tc .vmem S1x1x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true, false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "neg_log2e" => some ((-((Real.log 2)⁻¹) : ℝ) : EReal)
  | _ => none
-- ==== ReferenceIdeal.lean ====
abbrev S4x8192x1152 : Shape := ⟨3, ![4, 8192, 1152]⟩
abbrev S4x8192x36 : Shape := ⟨3, ![4, 8192, 36]⟩
abbrev S_ : Shape := ⟨0, ![]⟩
abbrev S4x8192x36x32 : Shape := ⟨4, ![4, 8192, 36, 32]⟩
abbrev S4x8192x36x1 : Shape := ⟨4, ![4, 8192, 36, 1]⟩
abbrev S4x8192x8192 : Shape := ⟨3, ![4, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x8192 : Shape := ⟨2, ![4, 8192]⟩
abbrev S1x8192x8192 : Shape := ⟨3, ![1, 8192, 8192]⟩

abbrev nBuf : Space → Nat
  | .hbm => 69
  | .vmem => 6
  | .smem => 0
  | _ => 0

abbrev bufTy : (tb : Table) → Fin (tcTables nBuf tb) → BufTy
  | .hbm, ⟨0, _⟩ => ⟨S4x8192x1152, .fp8e4m3⟩
  | .hbm, ⟨1, _⟩ => ⟨S4x8192x36, .f32⟩
  | .hbm, ⟨2, _⟩ => ⟨S4x8192x1152, .fp8e4m3⟩
  | .hbm, ⟨3, _⟩ => ⟨S4x8192x36, .f32⟩
  | .hbm, ⟨4, _⟩ => ⟨S_, .f32⟩
  | .hbm, ⟨5, _⟩ => ⟨S_, .f32⟩
  | .hbm, ⟨6, _⟩ => ⟨S4x8192x1152, .bf16⟩
  | .hbm, ⟨7, _⟩ => ⟨S4x8192x1152, .bf16⟩
  | .hbm, ⟨8, _⟩ => ⟨S_, .f32⟩
  | .hbm, ⟨9, _⟩ => ⟨S4x8192x8192, .f32⟩
  | .hbm, ⟨10, _⟩ => ⟨S4x8192x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S8192, .i32⟩
  | .hbm, ⟨15, _⟩ => ⟨S8192x1, .i32⟩
  | .hbm, ⟨16, _⟩ => ⟨S8192, .i32⟩
  | .hbm, ⟨17, _⟩ => ⟨S1x8192, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S4x8192x8192, .f32⟩
  | .hbm, ⟨22, _⟩ => ⟨S4x8192x8192, .i1⟩
  | .hbm, ⟨23, _⟩ => ⟨S4x8192x8192, .f32⟩
  | .hbm, ⟨24, _⟩ => ⟨S_, .f32⟩
  | .hbm, ⟨25, _⟩ => ⟨S4x8192x8192, .f32⟩
  | .hbm, ⟨26, _⟩ => ⟨S4x8192x8192, .f32⟩
  | .hbm, ⟨27, _⟩ => ⟨S4x8192x8192, .f32⟩
  | .hbm, ⟨28, _⟩ => ⟨S4x8192x8192, .f32⟩
  | .hbm, ⟨29, _⟩ => ⟨S4x8192x8192, .i1⟩
  | .hbm, ⟨30, _⟩ => ⟨S4x8192x8192, .f32⟩
  | .hbm, ⟨31, _⟩ => ⟨S4x8192x8192, .f32⟩
  | .hbm, ⟨32, _⟩ => ⟨S4x8192x8192, .f32⟩
  | .hbm, ⟨33, _⟩ => ⟨S4x8192x8192, .f32⟩
  | .hbm, ⟨34, _⟩ => ⟨S4x8192x8192, .f32⟩
  | .hbm, ⟨35, _⟩ => ⟨S4x8192x8192, .f32⟩
  | .hbm, ⟨36, _⟩ => ⟨S4x8192x8192, .f32⟩
  | .hbm, ⟨37, _⟩ => ⟨S4x8192x8192, .f32⟩
  | .hbm, ⟨38, _⟩ => ⟨S_, .f32⟩
  | .hbm, ⟨39, _⟩ => ⟨S4x8192, .f32⟩
  | .hbm, ⟨40, _⟩ => ⟨S4x8192x8192, .f32⟩
  | .hbm, ⟨41, _⟩ => ⟨S4x8192x8192, .f32⟩
  | .hbm, ⟨42, _⟩ => ⟨S_, .f32⟩
  | .hbm, ⟨43, _⟩ => ⟨S4x8192x8192, .f32⟩
  | .hbm, ⟨44, _⟩ => ⟨S4x8192x8192, .f32⟩
  | .hbm, ⟨45, _⟩ => ⟨S_, .f32⟩
  | .hbm, ⟨46, _⟩ => ⟨S4x8192x8192, .f32⟩
  | .hbm, ⟨47, _⟩ => ⟨S4x8192x8192, .f32⟩
  | .hbm, ⟨48, _⟩ => ⟨S8192x8192, .f32⟩
  | .hbm, ⟨49, _⟩ => ⟨S1x8192x8192, .f32⟩
  | .hbm, ⟨50, _⟩ => ⟨S4x8192x8192, .f32⟩
  | .hbm, ⟨51, _⟩ => ⟨S4x8192x8192, .f32⟩
  | .hbm, ⟨52, _⟩ => ⟨S_, .f32⟩
  | .hbm, ⟨53, _⟩ => ⟨S4x8192x8192, .f32⟩
  | .hbm, ⟨54, _⟩ => ⟨S4x8192x8192, .f32⟩
  | .hbm, ⟨55, _⟩ => ⟨S4x8192x8192, .f32⟩
  | .hbm, ⟨56, _⟩ => ⟨S_, .f32⟩
  | .hbm, ⟨57, _⟩ => ⟨S4x8192, .f32⟩
  | .hbm, ⟨58, _⟩ => ⟨S_, .f32⟩
  | .hbm, ⟨59, _⟩ => ⟨S4x8192, .f32⟩
  | .hbm, ⟨60, _⟩ => ⟨S4x8192x8192, .bf16⟩
  | .hbm, ⟨61, _⟩ => ⟨S4x8192x1152, .f32⟩
  | .hbm, ⟨62, _⟩ => ⟨S4x8192x1152, .f32⟩
  | .hbm, ⟨63, _⟩ => ⟨S4x8192x1152, .f32⟩
  | .hbm, ⟨64, _⟩ => ⟨S4x8192x1152, .bf16⟩
  | .hbm, ⟨65, _⟩ => ⟨S4x8192x1152, .f32⟩
  | .hbm, ⟨66, _⟩ => ⟨S4x8192x1152, .f32⟩
  | .hbm, ⟨67, _⟩ => ⟨S4x8192x1152, .f32⟩
  | .hbm, ⟨68, _⟩ => ⟨S4x8192x1152, .bf16⟩
  | .local _ .vmem, ⟨0, _⟩ => ⟨S4x8192x1152, .fp8e4m3⟩
  | .local _ .vmem, ⟨1, _⟩ => ⟨S4x8192x36, .f32⟩
  | .local _ .vmem, ⟨2, _⟩ => ⟨S4x8192x1152, .fp8e4m3⟩
  | .local _ .vmem, ⟨3, _⟩ => ⟨S4x8192x36, .f32⟩
  | .local _ .vmem, ⟨4, _⟩ => ⟨S4x8192x1152, .bf16⟩
  | .local _ .vmem, ⟨5, _⟩ => ⟨S4x8192x1152, .bf16⟩
  | _, _ => ⟨S4x8192x1152, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_v15 : Ref sig .tc := ⟨.hbm, 23, rfl⟩
abbrev main_call1_cst : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_0 : Ref sig .tc := ⟨.hbm, 42, rfl⟩
abbrev main_v20 : Ref sig .tc := ⟨.hbm, 43, rfl⟩
abbrev main_v21 : Ref sig .tc := ⟨.hbm, 44, rfl⟩
abbrev main_cst_1 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_2 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_3 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x8192x1152 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8192x36 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8192x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8192x36 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8192x1152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x8192x1152 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Region.lean ====
/-
  How a pallas_call of the kernel program (as printed) is entered and left, for any of its three calls: the call is entered
  holding every unscoped buffer at a valuation `V c`, and left holding them at a valuation `Vp c` that has the call's
  arrays at what the pipeline library computes from the proof data and agrees with `V c` everywhere else.
-/
module

public import proofs.«01_k».proof.Proof.Gen.Kernel.Regions
public import proofs.«01_k».proof.Proof.Gen.Kernel.Points
public import proofs.«01_k».proof.Proof.Gen.Kernel.Skeleton
public import Idealize.ShloMosaic.Lib.Pipeline.RegionsLoop
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No core owes another anything: no level is assigned. -/
abbrev L : GSem nD τ sig → Finset Unit := fun _ => ∅
abbrev lv : GSem nD τ sig → Unit → ℕ := fun _ _ => 0

/-- What rides along beside the unscoped buffers between the items of @main: the core's `owes`, at nothing owed. -/
abbrev rest (c : Dev nD) : sProp 𝕄 := iprop(∃ W, owes (c : Thread nD τ) (0 : CellTallies nD τ sig Unit) W)

variable (pdats : (p : Fin 3) → (c : Dev nD) → Dat τ (Elt F) Unit ℕ (UR sig nD τ) ℕ (cfgs p) c)

set_option backward.isDefEq.respectTransparency.types false in
/-- The record of call `p`, from the launch facts of the call (`hl`), the body obligation at every point (`hbody`), proof
    data whose arrays are read off `V` (`hA`), whose invariant starts and ends as the scoped buffers no window stages
    (`hΦ0`, `hΦN`), that owes nothing and holds its arrays whole, and a valuation `Vp` that the call leaves. -/
def reg (p : Fin 3) (hl : Pipeline.LaunchFacts (nD := nD) (τ := τ) cfgs p)
    (V Vp : (c : Dev nD) → Valuation τ sig (Elt F))
    (hbody : ∀ c, BodyObligation (pdats p c) (defs₀ (F := F)) Variants.none () Set.univ)
    (hA : ∀ c w, (pdats p c).A w = V c (Pipeline.arrRef (cfgs p).spec w))
    (hΦ0 : ∀ c, (Pipeline.scopedRest (Ix := Unit) (Name := ℕ) (U := UR sig nD τ) (Lvl := ℕ) (Val := Elt F) (cfgs p).spec c : sProp 𝕄) ⊢ (pdats p c).Φ 0)
    (hΦN : ∀ c, (pdats p c).Φ (Fin.last (cfgs p).N) ⊢ (Pipeline.scopedRest (Ix := Unit) (Name := ℕ) (U := UR sig nD τ) (Lvl := ℕ) (Val := Elt F) (cfgs p).spec c : sProp 𝕄))
    (howed : ∀ c t, (pdats p c).owed t = 0)
    (hrec : ∀ c t x, x ∈ (pdats p c).recorded t)
    (hq : ∀ c w, (pdats p c).q w = fullShare)
    (hVp : ∀ c w, Vp c (Pipeline.arrRef (cfgs p).spec w) = (pdats p c).arrAt w (cfgs p).N)
    (hVp_ne : ∀ c (b : Ref sig .tc), b ∉ Finset.univ.image (Pipeline.arrRef (cfgs p).spec) → Vp c b = V c b) :
    Pipeline.RegionSeg (pcfgs (F := F)) adm pdats () defs₀ Variants.none L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p fun c t => howed c t
  pre c := iprop(StableHlo.held (c : Thread nD τ) (Pipeline.ucRefs τ sig) (V c) ∗ rest c)
  post c := iprop(StableHlo.held (c : Thread nD τ) (Pipeline.ucRefs τ sig) (Vp c) ∗ rest c)
  X _ := BI.emp
  Y _ := BI.emp
  Z c := Pipeline.unscopedRest (Ix := Unit) (Name := ℕ) (U := UR sig nD τ) (Lvl := ℕ) (cfgs p).spec c fun b => V c b
  hentry c := by
    rw [Pipeline.ownSems0_none, ← Pipeline.unscopedBufs_held (Ix := Unit) (Name := ℕ) (U := UR sig nD τ) (Lvl := ℕ) c (V c)]
    have hsplit := Pipeline.arrays_of_unscopedBufs (p := p) (pcfgs (F := F)) adm pdats hl.win hl.arr_whole c
      ((pdats p c).share_full (hq c)) (fun b => V c b) (hA c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold rest Pipeline.Dat.owesAt Pipeline.owesWithin
      rw [howed]
      icases HO with ⟨%W, HO⟩; iexists W; isplitr; · ipureintro; exact fun x _ => Or.inl (hrec c _ x)
      iexact HO
    isplitr; · iempintro
    iassumption
  hin c := by
    iintro ⟨-, -, Hr⟩
    iapply (hΦ0 c); iexact Hr
  hout c := by
    rw [Pipeline.ownSems0_none]
    iintro Hr
    isplitr; · iempintro
    isplitr; · iempintro
    iapply (hΦN c); iexact Hr
  hexit c := by
    have hjoin := Pipeline.unscopedBufs_of_arrays (p := p) (pcfgs (F := F)) adm (Ix := Unit) (Name := ℕ) (U := UR sig nD τ) (Lvl := ℕ) hl.win hl.arr_whole c
      pdats ((pdats p c).share_full (hq c)) (fun b => V c b) (fun b => Vp c b) ((pdats p c).arrAt · (cfgs p).N)
      (fun w => (hVp c w).symm) (hVp_ne c)
    rw [← Pipeline.unscopedBufs_held (Ix := Unit) (Name := ℕ) (U := UR sig nD τ) (Lvl := ℕ) c (Vp c)]
    iintro ⟨Ha, HO, -, Hrest⟩
    imodintro
    isplitl [Ha Hrest]
    · iapply hjoin; isplitl [Ha] <;> iassumption
    unfold rest Pipeline.Dat.owesAt Pipeline.owesWithin
    rw [howed]
    icases HO with ⟨%W, -, HO⟩; iexists W; iexact HO

end Cert.Kernel.Hand

end
-- ==== Proof.Kernel.Prep.lean ====
/-
  The two preparing pallas_calls of the kernel program (as printed), each over its grid of points (batch, block of 512 rows):
  what the body leaves in every output block (`outX_xt`, `outY_y`, `outY_yt`, in terms of the block of codes and the block
  of scales), the body's triple, the proof data of the call entered from any contents `V` of the arrays, and the body
  obligation the pipeline library asks for.
-/
module

public import proofs.«01_k».proof.Proof.Kernel.Region

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The bodies' accesses: each whole -/

abbrev rCodes : Rect S1x512x1152 := Rect.unit (s := S1x512x1152) ![0, 0, 0] S1x512x1152.size inb_S1x512x1152_S1x512x1152_0_0_0
abbrev rScales : Rect S1x512x36 := Rect.unit (s := S1x512x36) ![0, 0, 0] S1x512x36.size inb_S1x512x36_S1x512x36_0_0_0
abbrev rT : Rect S1x1152x512 := Rect.unit (s := S1x1152x512) ![0, 0, 0] S1x1152x512.size inb_S1x1152x512_S1x1152x512_0_0_0

/-- One store of the whole block covers it. -/
theorem cover_rows (p0 : Vec F S1x512x1152 .bf16) (y : S1x512x1152.Idx) :
    ∃ pc ∈ ([⟨rCodes, p0⟩] : List (View.Piece (Elt F) S1x512x1152 .bf16)), y ∈ pc.1.set :=
  View.cover_of_tiled [⟨rCodes, p0⟩] S1x512x1152.size (by rfl) y
theorem cover_t (p0 : Vec F S1x1152x512 .bf16) (y : S1x1152x512.Idx) :
    ∃ pc ∈ ([⟨rT, p0⟩] : List (View.Piece (Elt F) S1x1152x512 .bf16)), y ∈ pc.1.set :=
  View.cover_of_tiled [⟨rT, p0⟩] S1x1152x512.size (by rfl) y

/-- The transposed block of x that `prep_x` leaves, from the blocks of codes and scales. -/
def outX_xt (x0 : Vec F S1x512x1152 .fp8e4m3) (x1 : Vec F S1x512x36 .f32) : Vec F S1x1152x512 .bf16 :=
  View.canon [⟨rT, k0_pay1 (k0_pay2 (View.ld x0 rCodes) (View.ld x1 rScales))⟩]
/-- The block of y that `prep_y` leaves, -/
def outY_y (x0 : Vec F S1x512x1152 .fp8e4m3) (x1 : Vec F S1x512x36 .f32) : Vec F S1x512x1152 .bf16 :=
  View.canon [⟨rCodes, k1_pay1 (k1_pay3 (View.ld x0 rCodes) (View.ld x1 rScales))⟩]
/-- and the same block transposed. -/
def outY_yt (x0 : Vec F S1x512x1152 .fp8e4m3) (x1 : Vec F S1x512x36 .f32) : Vec F S1x1152x512 .bf16 :=
  View.canon [⟨rT, k1_pay2 (k1_pay3 (View.ld x0 rCodes) (View.ld x1 rScales))⟩]

namespace R0

/-! ## Pipeline 0 -/

set_option maxHeartbeats 1000000 in
/-- The body on whole staging memrefs, the inputs' at contents `x0`, `x1` and the outputs' at anything, runs to the
    continuation holding the inputs' as they were and each output's at its function of the inputs'. -/
theorem sound_kernel (c : Dev nD) (E : Set ℕ) (i : grid0.Coords) (arg2 : Memref sig .tc .vmem S1x512x1152 .fp8e4m3) (harg2 : arg2.IsWhole) (arg3 : Memref sig .tc .vmem S1x512x36 .f32) (harg3 : arg3.IsWhole) (arg4 : Memref sig .tc .vmem S1x1152x512 .bf16) (harg4 : arg4.IsWhole)
    (x0 : Vec F S1x512x1152 .fp8e4m3) (x1 : Vec F S1x512x36 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outX_xt x0 x1)) -∗ K ⟨⟩))
      ⊢ wp frame (wpE (defs₀ (F := F)) Variants.none c none) E (cc0_prep_x i arg2 harg2 arg3 harg3 arg4 harg4) K := by
  simp only [cc0_prep_x_eq_skeleton]; unfold cc0_prep_x_skel
  simp only [k0_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover_t _)).trans ?_
  rfl

variable (V : (c : Dev nD) → Valuation τ sig (Elt F))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as the call finds them; after the body each input's buffer at its block and each
    output's at its function of the input blocks; the invariant the scoped buffers no window stages; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outX_xt (iblk V c 0 t) (iblk V c 1 t)
  Φ _ := Pipeline.scopedRest spec0 c
  q _ := fullShare
  owed _ := 0

theorem A_eq (c : Dev nD) (w : Fin cfg0.W) : (dat V c).A w = V c (Pipeline.arrRef spec0 w) := by
  dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = outX_xt (iblk V c 0 t) (iblk V c 1 t) := by dsimp only [dat]

/-- Each input's current staging buffer holds its block at every point. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so `sound_kernel` applies; the invariant and the
    core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).Φ t.succ = (dat V c).Φ t.castSucc from rfl,
    show (dat V c).owesAt () t.succ = (dat V c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end R0

namespace R1

/-! ## Pipeline 1 -/

set_option maxHeartbeats 1000000 in
/-- The body on whole staging memrefs, the inputs' at contents `x0`, `x1` and the outputs' at anything, runs to the
    continuation holding the inputs' as they were and each output's at its function of the inputs'. -/
theorem sound_kernel (c : Dev nD) (E : Set ℕ) (i : grid1.Coords) (arg2 : Memref sig .tc .vmem S1x512x1152 .fp8e4m3) (harg2 : arg2.IsWhole) (arg3 : Memref sig .tc .vmem S1x512x36 .f32) (harg3 : arg3.IsWhole) (arg4 : Memref sig .tc .vmem S1x512x1152 .bf16) (harg4 : arg4.IsWhole) (arg5 : Memref sig .tc .vmem S1x1152x512 .bf16) (harg5 : arg5.IsWhole)
    (x0 : Vec F S1x512x1152 .fp8e4m3) (x1 : Vec F S1x512x36 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (outY_y x0 x1) ∗ owns (c : Thread nD τ) arg5 fullShare (outY_yt x0 x1)) -∗ K ⟨⟩))
      ⊢ wp frame (wpE (defs₀ (F := F)) Variants.none c none) E (cc1_prep_y i arg2 harg2 arg3 harg3 arg4 harg4 arg5 harg5) K := by
  simp only [cc1_prep_y_eq_skeleton]; unfold cc1_prep_y_skel
  simp only [k1_part1_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover_rows _)).trans ?_
    rfl
  iexists _; isplitr
  swap; · iexact H3
  ipureintro
  refine (View.read_writes_eq_canon _ _ _ (cover_t _)).trans ?_
  rfl

variable (V : (c : Dev nD) → Valuation τ sig (Elt F))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: the arrays as the call finds them; after the body each input's buffer at its block and each
    output's at its function of the input blocks; the invariant the scoped buffers no window stages; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outY_y (iblk V c 0 t) (iblk V c 1 t)
    | ⟨3, _⟩ => outY_yt (iblk V c 0 t) (iblk V c 1 t)
  Φ _ := Pipeline.scopedRest spec1 c
  q _ := fullShare
  owed _ := 0

theorem A_eq (c : Dev nD) (w : Fin cfg1.W) : (dat V c).A w = V c (Pipeline.arrRef spec1 w) := by
  dsimp only [dat]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = outY_y (iblk V c 0 t) (iblk V c 1 t) := by dsimp only [dat]
theorem after3 (c : Dev nD) (t : Fin cfg1.N) : (dat V c).after 3 t = outY_yt (iblk V c 0 t) (iblk V c 1 t) := by dsimp only [dat]

/-- Each input's current staging buffer holds its block at every point. -/
theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' memrefs hold their blocks, so `sound_kernel` applies; the invariant and the
    core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk V c 0 t) (iblk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end R1

end Cert.Kernel.Hand

end
-- ==== Proof.Kernel.MainVals.lean ====
/-
  What one grid point of the main pallas_call computes (program as printed), as functions of the blocks it is given: the
  scalars `P`, the transposed block of x `X`, the block of y `Y` and its transpose `YT`, and the accumulators as found.
-/
module

public import proofs.«01_k».proof.Proof.Kernel.Prep

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The accesses -/

abbrev rX : Rect S1x1152x1024 := Rect.unit (s := S1x1152x1024) ![0, 0, 0] S1x1152x1024.size inb_S1x1152x1024_S1x1152x1024_0_0_0
abbrev rY0 : Rect S1x512x1152 := Rect.unit (s := S1x512x1152) ![0, 0, 0] S1x256x1152.size inb_S1x512x1152_S1x256x1152_0_0_0
abbrev rY1 : Rect S1x512x1152 := Rect.unit (s := S1x512x1152) ![0, 256, 0] S1x256x1152.size inb_S1x512x1152_S1x256x1152_0_256_0
abbrev rG0 : Rect S512x1024 := Rect.unit (s := S512x1024) ![0, 0] S256x1024.size inb_S512x1024_S256x1024_0_0
abbrev rG1 : Rect S512x1024 := Rect.unit (s := S512x1024) ![256, 0] S256x1024.size inb_S512x1024_S256x1024_256_0
abbrev rG : Rect S512x1024 := Rect.unit (s := S512x1024) ![0, 0] S512x1024.size inb_S512x1024_S512x1024_0_0
abbrev rDx : Rect S1152x1024 := Rect.unit (s := S1152x1024) ![0, 0] S1152x1024.size inb_S1152x1024_S1152x1024_0_0
abbrev rS0 : Rect S3x8x1024 := Rect.unit (s := S3x8x1024) ![0, 0, 0] S1x8x1024.size inb_S3x8x1024_S1x8x1024_0_0_0
abbrev rS1 : Rect S3x8x1024 := Rect.unit (s := S3x8x1024) ![1, 0, 0] S1x8x1024.size inb_S3x8x1024_S1x8x1024_1_0_0
abbrev rS2 : Rect S3x8x1024 := Rect.unit (s := S3x8x1024) ![2, 0, 0] S1x8x1024.size inb_S3x8x1024_S1x8x1024_2_0_0
/-- Slice `j` of the accumulator of the transposed gradient of y. -/
abbrev rDy (j : Fin 16) : Rect S16x1152x512 := Rect.unit (s := S16x1152x512) ![j.val, 0, 0] S1x1152x512.size
  (by intro a; fin_cases a <;> simp [S16x1152x512, S1x1152x512] <;> omega)

/-! ## One point -/

/-- Scalar `k` of the parameters: the temperature, the bias, the reciprocal of the sequence's length. -/
def par0 (P : Vec F S3 .f32) : Elt F .f32 := View.ld P (Rect.unit ![0] S1.size inb_S3_S1_0) (Shape.Idx.first (numel1_S1.symm ▸ Nat.one_pos))
def par1 (P : Vec F S3 .f32) : Elt F .f32 := View.ld P (Rect.unit ![1] S1.size inb_S3_S1_1) (Shape.Idx.first (numel1_S1.symm ▸ Nat.one_pos))
def par2 (P : Vec F S3 .f32) : Elt F .f32 := View.ld P (Rect.unit ![2] S1.size inb_S3_S1_2) (Shape.Idx.first (numel1_S1.symm ▸ Nat.one_pos))

variable (i : grid2.Coords) (P : Vec F S3 .f32) (X : Vec F S1x1152x1024 .bf16) (Y : Vec F S1x512x1152 .bf16) (YT : Vec F S1x1152x512 .bf16)

/-- The first 256 rows of the block: the gradient of the logits, and the three row sums' steps. -/
def gA : FVec F S256x1024 .bf16 :=
  k2_pay18 (k2_pay12 (par0 P) (par1 P) (View.ld Y rY0) X) (k2_pay13 i) (k2_pay14 (par0 P) (par1 P) (View.ld Y rY0) X) (k2_pay16 (par0 P) (par1 P) (View.ld Y rY0) X)
def s0A (a : Vec F S1x8x1024 .f32) : FVec F S1x8x1024 .f32 :=
  k2_pay19 (k2_pay12 (par0 P) (par1 P) (View.ld Y rY0) X) (k2_pay13 i) (k2_pay14 (par0 P) (par1 P) (View.ld Y rY0) X) (k2_pay15 (par0 P) (par1 P) (View.ld Y rY0) X) a
def s1A (a : Vec F S1x8x1024 .f32) : FVec F S1x8x1024 .f32 :=
  k2_pay22 (k2_pay20 a) (k2_pay21 (k2_pay11 (par0 P) (View.ld Y rY0) X) (k2_pay12 (par0 P) (par1 P) (View.ld Y rY0) X) (k2_pay13 i) (k2_pay14 (par0 P) (par1 P) (View.ld Y rY0) X) (k2_pay16 (par0 P) (par1 P) (View.ld Y rY0) X))
def s2A (a : Vec F S1x8x1024 .f32) : FVec F S1x8x1024 .f32 :=
  k2_pay23 (k2_pay17 (k2_pay12 (par0 P) (par1 P) (View.ld Y rY0) X) (k2_pay13 i) (k2_pay14 (par0 P) (par1 P) (View.ld Y rY0) X) (k2_pay16 (par0 P) (par1 P) (View.ld Y rY0) X)) a

/-- The mask of the diagonal in the last 256 rows. -/
def diagB : IVec S256x1024 1 :=
  k2_pay26 (BitVec.ofNat 32 (i 1).val) (BitVec.ofNat 32 (i 2).val) (iota .tc S256x1024 32 [0] iota_S256x1024_d0_w32) (iota .tc S256x1024 32 [1] iota_S256x1024_d1_w32)
/-- The last 256 rows of the block: the same. -/
def gB : FVec F S256x1024 .bf16 :=
  k2_pay30 (k2_pay25 (par0 P) (par1 P) (View.ld Y rY1) X) (diagB i) (k2_pay27 (par0 P) (par1 P) (View.ld Y rY1) X) (k2_pay28 (par0 P) (par1 P) (View.ld Y rY1) X) (Scalar.ofBits .f32 0x3F800000#32)
def s0B (a : Vec F S1x8x1024 .f32) : FVec F S1x8x1024 .f32 :=
  k2_pay31 (k2_pay25 (par0 P) (par1 P) (View.ld Y rY1) X) (diagB i) (k2_pay27 (par0 P) (par1 P) (View.ld Y rY1) X) (k2_pay28 (par0 P) (par1 P) (View.ld Y rY1) X) a
def s1B (a : Vec F S1x8x1024 .f32) : FVec F S1x8x1024 .f32 :=
  k2_pay34 (k2_pay32 a) (k2_pay33 (k2_pay24 (par0 P) (View.ld Y rY1) X) (k2_pay25 (par0 P) (par1 P) (View.ld Y rY1) X) (diagB i) (k2_pay27 (par0 P) (par1 P) (View.ld Y rY1) X) (k2_pay28 (par0 P) (par1 P) (View.ld Y rY1) X) (Scalar.ofBits .f32 0x3F800000#32))
def s2B (a : Vec F S1x8x1024 .f32) : FVec F S1x8x1024 .f32 :=
  k2_pay35 (k2_pay29 (k2_pay25 (par0 P) (par1 P) (View.ld Y rY1) X) (diagB i) (k2_pay27 (par0 P) (par1 P) (View.ld Y rY1) X) (k2_pay28 (par0 P) (par1 P) (View.ld Y rY1) X) (Scalar.ofBits .f32 0x3F800000#32)) a

/-- The gradient of the logits at this point, both halves. -/
def gM : Vec F S512x1024 .bf16 := View.canon [⟨rG1, gB i P X Y⟩, ⟨rG0, gA i P X Y⟩]
/-- The accumulators' steps. -/
def dxStep (d : Vec F S1152x1024 .f32) : FVec F S1152x1024 .f32 := k2_pay36 (gM i P X Y) d YT
def dyStep (d : Vec F S1x1152x512 .f32) : FVec F S1x1152x512 .f32 := k2_pay1 (k2_pay37 (gM i P X Y) d X)

/-- The condition of the first reset: the block of y is the first. -/
def cond1 (i : grid2.Coords) : BitVec 1 :=
  Scalar.cmpi .ne (Scalar.extui (Scalar.cmpi .eq (BitVec.ofNat 32 (i 2).val) 0#32) : BitVec 32) 0#32

/-- The accumulators after this point, from those found. -/
def dxNext (d : Vec F S1152x1024 .f32) : Vec F S1152x1024 .f32 := dxStep i P X Y YT (if cond1 i = 1#1 then k2_pay8 else d)
def dyNext (d : Vec F S1x1152x512 .f32) : Vec F S1x1152x512 .f32 := dyStep i P X Y (if k2_cond2 i = 1#1 then k2_pay10 else d)
def s0Next (a : Vec F S1x8x1024 .f32) : Vec F S1x8x1024 .f32 := s0B i P X Y (s0A i P X Y (if cond1 i = 1#1 then View.ld k2_pay9 rS0 else a))
def s1Next (a : Vec F S1x8x1024 .f32) : Vec F S1x8x1024 .f32 := s1B i P X Y (s1A i P X Y (if cond1 i = 1#1 then View.ld k2_pay9 rS1 else a))
def s2Next (a : Vec F S1x8x1024 .f32) : Vec F S1x8x1024 .f32 := s2B i P X Y (s2A i P X Y (if cond1 i = 1#1 then View.ld k2_pay9 rS2 else a))

/-- What the last point of a row of blocks leaves in the output blocks, from the accumulators after it. -/
def outDx (d : Vec F S1152x1024 .f32) : Vec F S1x1024x1152 .bf16 := k2_pay4 (par0 P) (par2 P) d
def outDy (d : Vec F S1x1152x512 .f32) : Vec F S1x512x1152 .bf16 := k2_pay3 (par0 P) (par2 P) d
def outLoss (a : Vec F S1x8x1024 .f32) : Vec F S1x1x1024 .f32 := k2_pay5 a
def outDt (a : Vec F S1x8x1024 .f32) : Vec F S1x1x1024 .f32 := k2_pay6 (par2 P) a
def outDb (a : Vec F S1x8x1024 .f32) : Vec F S1x1x1024 .f32 := k2_pay2 (k2_pay7 (par2 P) a)

/-! ## Reading back through stores -/

section Read
variable {sp : Space} {s : Shape} {e : EltTy} (v : View sig .tc sp s e) (f : v.ty.Contents (Elt F))

/-- A rectangle read after a store through it: the payload; -/
theorem ld_hit (r : Rect s) (w : r.shape.Idx → Elt F e) (L : List (View.Piece (Elt F) s e)) :
    View.ld (v.read (Elt F) (v.writes (Elt F) f (⟨r, w⟩ :: L))) r = w :=
  funext fun x => View.read_writes_cons_emb v f r w L x
/-- after a store through one disjoint from it: as before the store. -/
theorem ld_miss (r r' : Rect s) (w : r'.shape.Idx → Elt F e) (L : List (View.Piece (Elt F) s e)) (h : Disjoint r'.set r.set) :
    View.ld (v.read (Elt F) (v.writes (Elt F) f (⟨r', w⟩ :: L))) r = View.ld (v.read (Elt F) (v.writes (Elt F) f L)) r :=
  funext fun x => View.read_writes_cons_miss v f _ L _ (Finset.disjoint_right.mp h (r.idx_mem x))
/-- The same of a load of stored pieces. -/
theorem cov_hit (r : Rect s) (w : r.shape.Idx → Elt F e) (L : List (View.Piece (Elt F) s e)) :
    v.readCov (⟨r, w⟩ :: L) r.toLoadRect = w := View.readCov_cons_toLoadRect v r w L
theorem cov_miss (r r' : Rect s) (w : r'.shape.Idx → Elt F e) (L : List (View.Piece (Elt F) s e)) (h : Disjoint r'.set r.set) :
    v.readCov (⟨r', w⟩ :: L) r.toLoadRect = v.readCov L r.toLoadRect := by
  rw [View.readCov_eq_canon', View.readCov_eq_canon']
  exact funext fun x => View.canon_cons_of_not_mem ⟨r', w⟩ L (Finset.disjoint_right.mp h (r.idx_mem x))
end Read

/-- Rectangles apart along the first axis are disjoint. -/
theorem disj_axis0 {d : Fin 3 → ℕ} {off off' size size' : Fin 3 → ℕ} (inb : ∀ a, off a + size a ≤ d a) (inb' : ∀ a, off' a + size' a ≤ d a)
    (h : off 0 + size 0 ≤ off' 0 ∨ off' 0 + size' 0 ≤ off 0) :
    Disjoint (Rect.unit (s := ⟨3, d⟩) off size inb).set (Rect.unit (s := ⟨3, d⟩) off' size' inb').set := by
  rw [Finset.disjoint_left]
  intro y hy hy'
  have h1 := (Rect.mem_set_unit.mp hy) 0
  have h2 := (Rect.mem_set_unit.mp hy') 0
  omega

theorem rS01 : Disjoint rS0.set rS1.set := disj_axis0 _ _ (by decide)
theorem rS02 : Disjoint rS0.set rS2.set := disj_axis0 _ _ (by decide)
theorem rS12 : Disjoint rS1.set rS2.set := disj_axis0 _ _ (by decide)
theorem rDy_disj {j j' : Fin 16} (h : j ≠ j') : Disjoint (rDy j).set (rDy j').set :=
  disj_axis0 _ _ (by
    have : j.val ≠ j'.val := fun e => h (Fin.ext e)
    show j.val + 1 ≤ j'.val ∨ j'.val + 1 ≤ j.val
    omega)

theorem off2_eq (i : grid2.Coords) : k2_off2 i = ![(i 2).val, 0, 0] := by
  have h : (i 2).val < 16 := (i 2).isLt
  have : (Scalar.indexCast (BitVec.ofNat 32 (i 2).val)).toNat = (i 2).val := by
    simp [Scalar.indexCast]; omega
  show ![(Scalar.indexCast (BitVec.ofNat 32 (i 2).val)).toNat, 0, 0] = _
  rw [this]
theorem off2_rect (i : grid2.Coords) (inb) : (Rect.unit (s := S16x1152x512) (k2_off2 i) S1x1152x512.size inb) = rDy (i 2) := by
  revert inb; rw [off2_eq]; intro inb; rfl

end Cert.Kernel.Hand

end
-- ==== Proof.Kernel.MainBody.lean ====
/-
  The main pallas_call's body at one grid point (program as printed): from its windows' buffers and its four scratch buffers at
  given contents it runs to its end leaving every buffer at the functions of MainVals. `body_head` is the body's first
  part (the resets), `sound_main` the whole body.
-/
module

public import proofs.«01_k».proof.Proof.Kernel.MainVals
public import Idealize.ShloMosaic.Lib.VecWindow
public import Idealize.ShloMosaic.Lib.Pipeline.ValueKit.Basic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the resets leave of the transposed gradient's accumulator: slice `i 2` at zero if reset, every other slice as it was. -/
def HeadD (i : grid2.Coords) (D D' : Vec F S16x1152x512 .f32) : Prop :=
  View.ld D' (rDy (i 2)) = (if k2_cond2 i = 1#1 then k2_pay10 else View.ld D (rDy (i 2))) ∧ ∀ j : Fin 16, j ≠ i 2 → View.ld D' (rDy j) = View.ld D (rDy j)

set_option maxHeartbeats 4000000 in
/-- The first part: the resets, and the values the later parts take. -/
theorem body_head (c : Dev nD) (E : Set ℕ) (i : grid2.Coords) (arg3 : Memref sig .tc .smem S3 .f32) (harg3 : arg3.IsWhole)
    (arg4 : Memref sig .tc .vmem S1x1152x1024 .bf16) (harg4 : arg4.IsWhole)
    (arg5 : Memref sig .tc .vmem S1x512x1152 .bf16) (harg5 : arg5.IsWhole)
    (arg6 : Memref sig .tc .vmem S1x1152x512 .bf16) (harg6 : arg6.IsWhole)
    (arg7 : Memref sig .tc .vmem S1x1x1024 .f32) (harg7 : arg7.IsWhole)
    (arg8 : Memref sig .tc .vmem S1x1024x1152 .bf16) (harg8 : arg8.IsWhole)
    (arg9 : Memref sig .tc .vmem S1x512x1152 .bf16) (harg9 : arg9.IsWhole)
    (arg10 : Memref sig .tc .vmem S1x1x1024 .f32) (harg10 : arg10.IsWhole)
    (arg11 : Memref sig .tc .vmem S1x1x1024 .f32) (harg11 : arg11.IsWhole)
    (arg12 : Memref sig .tc .vmem S16x1152x512 .f32) (harg12 : arg12.IsWhole)
    (arg13 : Memref sig .tc .vmem S1152x1024 .f32) (harg13 : arg13.IsWhole)
    (arg14 : Memref sig .tc .vmem S512x1024 .bf16) (harg14 : arg14.IsWhole)
    (arg15 : Memref sig .tc .vmem S3x8x1024 .f32) (harg15 : arg15.IsWhole)
    (P : Vec F S3 .f32) (X : Vec F S1x1152x1024 .bf16) (Y : Vec F S1x512x1152 .bf16) (D : Vec F S16x1152x512 .f32) (d : Vec F S1152x1024 .f32) (S : Vec F S3x8x1024 .f32)
    (K : _ → sProp 𝕄) :
    iprop(owns (c : Thread nD τ) arg3 fullShare P ∗ owns (c : Thread nD τ) arg4 fullShare X ∗ owns (c : Thread nD τ) arg5 fullShare Y ∗ owns (c : Thread nD τ) arg12 fullShare D ∗ owns (c : Thread nD τ) arg13 fullShare d ∗ owns (c : Thread nD τ) arg15 fullShare S
      ∗ (∀ D' v, ⌜HeadD i D D'⌝ -∗ ⌜v = ⟨BitVec.ofNat 32 (i 1).val, BitVec.ofNat 32 (i 2).val, par0 P, par1 P, par2 P, iota .tc S256x1024 32 [0] iota_S256x1024_d0_w32, iota .tc S256x1024 32 [1] iota_S256x1024_d1_w32,
            k2_pay11 (par0 P) (View.ld Y rY0) X, k2_pay12 (par0 P) (par1 P) (View.ld Y rY0) X, k2_pay13 i, k2_pay14 (par0 P) (par1 P) (View.ld Y rY0) X, k2_pay15 (par0 P) (par1 P) (View.ld Y rY0) X, k2_pay16 (par0 P) (par1 P) (View.ld Y rY0) X⟩⌝ -∗ owns (c : Thread nD τ) arg3 fullShare P -∗ owns (c : Thread nD τ) arg4 fullShare X -∗ owns (c : Thread nD τ) arg5 fullShare Y -∗ owns (c : Thread nD τ) arg12 fullShare D' -∗ owns (c : Thread nD τ) arg13 fullShare (if cond1 i = 1#1 then k2_pay8 else d) -∗ owns (c : Thread nD τ) arg15 fullShare (if cond1 i = 1#1 then k2_pay9 else S)
        -∗ K v))
      ⊢ wp frame (wpE (defs₀ (F := F)) Variants.none c none) E (k2_part2 i arg3 harg3 arg4 harg4 arg5 harg5 arg6 harg6 arg7 harg7 arg8 harg8 arg9 harg9 arg10 harg10 arg11 harg11 arg12 harg12 arg13 harg13 arg14 harg14 arg15 harg15) K := by
  simp only [k2_part2_eq_skeleton]; unfold k2_part2_skel
  unfold owns
  iintro ⟨⟨%f3, %hf3, H3⟩, ⟨%f4, %hf4, H4⟩, ⟨%f5, %hf5, H5⟩, ⟨%f12, %hf12, H12⟩, ⟨%f13, %hf13, H13⟩, ⟨%f15, %hf15, H15⟩, Hk⟩
  subst hf3 hf4 hf5 hf12 hf13 hf15
  have eX : View.ld (arg4.view.read (Elt F) f4) rX = arg4.view.read (Elt F) f4 := View.ld_unit_lit _ _ (by decide)
  have hD2 : ∀ (w : FVec F S1x1152x512 .f32) (h2 : k2_cond2 i = 1#1), HeadD (F := F) i (arg12.view.read (Elt F) f12)
      (arg12.view.read (Elt F) (arg12.view.writes (Elt F) f12 [⟨Rect.unit (s := S16x1152x512) (k2_off1 i) S1x1152x512.size (k2_off1_inb i h2), k2_pay10⟩])) := by
    intro w h2
    have e : (⟨Rect.unit (s := S16x1152x512) (k2_off1 i) S1x1152x512.size (k2_off1_inb i h2), k2_pay10⟩ : View.Piece (Elt F) S16x1152x512 .f32) = ⟨rDy (i 2), k2_pay10⟩ := by
      have := off2_eq i
      generalize k2_off1_inb i h2 = inb
      revert inb
      rw [show k2_off1 i = k2_off2 i from rfl, this]
      intro inb; rfl
    rw [e]
    refine ⟨?_, fun j hj => ?_⟩
    · rw [if_pos h2]; exact ld_hit _ _ _ _ _
    · exact ld_miss _ _ _ _ _ _ (rDy_disj (Ne.symm hj))
  have hD1 : ¬ k2_cond2 i = 1#1 → HeadD (F := F) i (arg12.view.read (Elt F) f12) (arg12.view.read (Elt F) f12) :=
    fun h2 => ⟨(if_neg h2).symm, fun _ _ => rfl⟩
  have r13 : arg13.view.read (Elt F) (arg13.view.writes (Elt F) f13 [⟨rDx, k2_pay8⟩]) = k2_pay8 := View.read_writes_full _ _ _ _ _
  have r15 : arg15.view.read (Elt F) (arg15.view.writes (Elt F) f15 [⟨Rect.unit (s := S3x8x1024) ![0, 0, 0] S3x8x1024.size inb_S3x8x1024_S3x8x1024_0_0_0, k2_pay9⟩]) = k2_pay9 := View.read_writes_full _ _ _ _ _
  by_cases h1 : cond1 i = 1#1
  · rw [if_pos h1, if_pos h1]
    unfold cond1 at h1
    by_cases h2 : k2_cond2 i = 1#1
    · sl_exec
      sl_step
      iapply Hk $$ %_ %_ %(hD2 k2_pay10 h2) %(by rfl) [H3] [H4] [H5] [H12] [H13] [H15]
      · iexists f3; isplitr; · ipureintro; rfl
        iexact H3
      · iexists f4; isplitr; · ipureintro; rfl
        iexact H4
      · iexists f5; isplitr; · ipureintro; rfl
        iexact H5
      · iexists _; isplitr; swap; · iexact H12
        ipureintro; rfl
      · iexists _; isplitr; swap; · iexact H13
        ipureintro; exact r13
      · iexists _; isplitr; swap; · iexact H15
        ipureintro; exact r15
    · sl_exec
      sl_step
      iapply Hk $$ %_ %_ %(hD1 h2) %(by rfl) [H3] [H4] [H5] [H12] [H13] [H15]
      · iexists f3; isplitr; · ipureintro; rfl
        iexact H3
      · iexists f4; isplitr; · ipureintro; rfl
        iexact H4
      · iexists f5; isplitr; · ipureintro; rfl
        iexact H5
      · iexists _; isplitr; swap; · iexact H12
        ipureintro; rfl
      · iexists _; isplitr; swap; · iexact H13
        ipureintro; exact r13
      · iexists _; isplitr; swap; · iexact H15
        ipureintro; exact r15
  · rw [if_neg h1, if_neg h1]
    unfold cond1 at h1
    by_cases h2 : k2_cond2 i = 1#1
    · sl_exec
      sl_step
      iapply Hk $$ %_ %_ %(hD2 k2_pay10 h2) %(by rfl) [H3] [H4] [H5] [H12] [H13] [H15]
      · iexists f3; isplitr; · ipureintro; rfl
        iexact H3
      · iexists f4; isplitr; · ipureintro; rfl
        iexact H4
      · iexists f5; isplitr; · ipureintro; rfl
        iexact H5
      · iexists _; isplitr; swap; · iexact H12
        ipureintro; rfl
      · iexists _; isplitr; swap; · iexact H13
        ipureintro; rfl
      · iexists _; isplitr; swap; · iexact H15
        ipureintro; rfl
    · sl_exec
      sl_step
      iapply Hk $$ %_ %_ %(hD1 h2) %(by rfl) [H3] [H4] [H5] [H12] [H13] [H15]
      · iexists f3; isplitr; · ipureintro; rfl
        iexact H3
      · iexists f4; isplitr; · ipureintro; rfl
        iexact H4
      · iexists f5; isplitr; · ipureintro; rfl
        iexact H5
      · iexists _; isplitr; swap; · iexact H12
        ipureintro; rfl
      · iexists _; isplitr; swap; · iexact H13
        ipureintro; rfl
      · iexists _; isplitr; swap; · iexact H15
        ipureintro; rfl

/-- What the point leaves of the transposed gradient's accumulator: slice `i 2` its next, every other slice as it was; -/
def NextD (i : grid2.Coords) (P : Vec F S3 .f32) (X : Vec F S1x1152x1024 .bf16) (Y : Vec F S1x512x1152 .bf16) (D D' : Vec F S16x1152x512 .f32) : Prop :=
  View.ld D' (rDy (i 2)) = dyNext i P X Y (View.ld D (rDy (i 2))) ∧ ∀ j : Fin 16, j ≠ i 2 → View.ld D' (rDy j) = View.ld D (rDy j)
/-- and of the three sums' accumulators: the next of each. -/
def NextS (i : grid2.Coords) (P : Vec F S3 .f32) (X : Vec F S1x1152x1024 .bf16) (Y : Vec F S1x512x1152 .bf16) (S S' : Vec F S3x8x1024 .f32) : Prop :=
  View.ld S' rS0 = s0Next i P X Y (View.ld S rS0) ∧ View.ld S' rS1 = s1Next i P X Y (View.ld S rS1) ∧ View.ld S' rS2 = s2Next i P X Y (View.ld S rS2)

set_option maxHeartbeats 8000000 in
/-- The whole body. -/
theorem sound_main (c : Dev nD) (E : Set ℕ) (i : grid2.Coords) (arg3 : Memref sig .tc .smem S3 .f32) (harg3 : arg3.IsWhole)
    (arg4 : Memref sig .tc .vmem S1x1152x1024 .bf16) (harg4 : arg4.IsWhole)
    (arg5 : Memref sig .tc .vmem S1x512x1152 .bf16) (harg5 : arg5.IsWhole)
    (arg6 : Memref sig .tc .vmem S1x1152x512 .bf16) (harg6 : arg6.IsWhole)
    (arg7 : Memref sig .tc .vmem S1x1x1024 .f32) (harg7 : arg7.IsWhole)
    (arg8 : Memref sig .tc .vmem S1x1024x1152 .bf16) (harg8 : arg8.IsWhole)
    (arg9 : Memref sig .tc .vmem S1x512x1152 .bf16) (harg9 : arg9.IsWhole)
    (arg10 : Memref sig .tc .vmem S1x1x1024 .f32) (harg10 : arg10.IsWhole)
    (arg11 : Memref sig .tc .vmem S1x1x1024 .f32) (harg11 : arg11.IsWhole)
    (arg12 : Memref sig .tc .vmem S16x1152x512 .f32) (harg12 : arg12.IsWhole)
    (arg13 : Memref sig .tc .vmem S1152x1024 .f32) (harg13 : arg13.IsWhole)
    (arg14 : Memref sig .tc .vmem S512x1024 .bf16) (harg14 : arg14.IsWhole)
    (arg15 : Memref sig .tc .vmem S3x8x1024 .f32) (harg15 : arg15.IsWhole)
    (P : Vec F S3 .f32) (X : Vec F S1x1152x1024 .bf16) (Y : Vec F S1x512x1152 .bf16) (YT : Vec F S1x1152x512 .bf16) (X7 : Vec F S1x1x1024 .f32) (X8 : Vec F S1x1024x1152 .bf16) (X9 : Vec F S1x512x1152 .bf16) (X10 : Vec F S1x1x1024 .f32) (X11 : Vec F S1x1x1024 .f32) (D : Vec F S16x1152x512 .f32) (d : Vec F S1152x1024 .f32) (G : Vec F S512x1024 .bf16) (S : Vec F S3x8x1024 .f32) (K : _ → sProp 𝕄) :
    iprop(owns (c : Thread nD τ) arg3 fullShare P ∗ owns (c : Thread nD τ) arg4 fullShare X ∗ owns (c : Thread nD τ) arg5 fullShare Y ∗ owns (c : Thread nD τ) arg6 fullShare YT ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare D ∗ owns (c : Thread nD τ) arg13 fullShare d ∗ owns (c : Thread nD τ) arg14 fullShare G ∗ owns (c : Thread nD τ) arg15 fullShare S
      ∗ (∀ D' G' S', ⌜NextD i P X Y D D'⌝ -∗ ⌜NextS i P X Y S S'⌝ -∗ owns (c : Thread nD τ) arg3 fullShare P -∗ owns (c : Thread nD τ) arg4 fullShare X -∗ owns (c : Thread nD τ) arg5 fullShare Y -∗ owns (c : Thread nD τ) arg6 fullShare YT
        -∗ owns (c : Thread nD τ) arg7 fullShare (if k2_cond3 i = 1#1 then outLoss (s0Next i P X Y (View.ld S rS0)) else X7)
        -∗ owns (c : Thread nD τ) arg8 fullShare (if k2_cond3 i = 1#1 then outDx P (dxNext i P X Y YT d) else X8)
        -∗ owns (c : Thread nD τ) arg9 fullShare (if k2_cond4 i = 1#1 then outDy P (dyNext i P X Y (View.ld D (rDy (i 2)))) else X9)
        -∗ owns (c : Thread nD τ) arg10 fullShare (if k2_cond3 i = 1#1 then outDt P (s1Next i P X Y (View.ld S rS1)) else X10)
        -∗ owns (c : Thread nD τ) arg11 fullShare (if k2_cond3 i = 1#1 then outDb P (s2Next i P X Y (View.ld S rS2)) else X11)
        -∗ owns (c : Thread nD τ) arg12 fullShare D' -∗ owns (c : Thread nD τ) arg13 fullShare (dxNext i P X Y YT d) -∗ owns (c : Thread nD τ) arg14 fullShare G' -∗ owns (c : Thread nD τ) arg15 fullShare S' -∗ K ⟨⟩))
      ⊢ wp frame (wpE (defs₀ (F := F)) Variants.none c none) E (cc2_siglip i arg3 harg3 arg4 harg4 arg5 harg5 arg6 harg6 arg7 harg7 arg8 harg8 arg9 harg9 arg10 harg10 arg11 harg11 arg12 harg12 arg13 harg13 arg14 harg14 arg15 harg15) K := by
  simp only [cc2_siglip_eq_skeleton]; unfold cc2_siglip_skel
  iintro ⟨H3, H4, H5, H6, H7, H8, H9, H10, H11, H12, H13, H14, H15, Hk⟩
  rw [wp_bind]
  iapply (body_head c E i arg3 harg3 arg4 harg4 arg5 harg5 arg6 harg6 arg7 harg7 arg8 harg8 arg9 harg9 arg10 harg10 arg11 harg11 arg12 harg12 arg13 harg13 arg14 harg14 arg15 harg15 P X Y D d S _)
  isplitl [H3]; · iexact H3
  isplitl [H4]; · iexact H4
  isplitl [H5]; · iexact H5
  isplitl [H12]; · iexact H12
  isplitl [H13]; · iexact H13
  isplitl [H15]; · iexact H15
  iintro %D1 %vv %hD1 %hvv H3 H4 H5 H12 H13 H15
  subst hvv
  generalize hd1 : (if cond1 i = 1#1 then k2_pay8 else d) = d1
  generalize hS1 : (if cond1 i = 1#1 then k2_pay9 else S) = S1
  simp only [k2_part1_eq_skeleton, k2_part3_eq_skeleton, k2_part4_eq_skeleton, k2_part5_eq_skeleton, k2_part6_eq_skeleton]
  unfold k2_part1_skel k2_part3_skel k2_part4_skel k2_part5_skel k2_part6_skel
  unfold owns
  icases H3 with ⟨%f3, %hf3, H3⟩
  icases H4 with ⟨%f4, %hf4, H4⟩
  icases H5 with ⟨%f5, %hf5, H5⟩
  icases H6 with ⟨%f6, %hf6, H6⟩
  icases H7 with ⟨%f7, %hf7, H7⟩
  icases H8 with ⟨%f8, %hf8, H8⟩
  icases H9 with ⟨%f9, %hf9, H9⟩
  icases H10 with ⟨%f10, %hf10, H10⟩
  icases H11 with ⟨%f11, %hf11, H11⟩
  icases H12 with ⟨%f12, %hf12, H12⟩
  icases H13 with ⟨%f13, %hf13, H13⟩
  icases H14 with ⟨%f14, %hf14, H14⟩
  icases H15 with ⟨%f15, %hf15, H15⟩
  have eX : View.ld X rX = X := View.ld_unit_lit _ _ (by decide)
  have eYT : View.ld YT (Rect.unit (s := S1x1152x512) ![0, 0, 0] S1x1152x512.size inb_S1x1152x512_S1x1152x512_0_0_0) = YT := View.ld_unit_lit _ _ (by decide)
  have ed1 : View.ld (Val := Elt F) (e' := .f32) d1 rDx = d1 := View.ld_unit_lit (Val := Elt F) (e := .f32) (S := S1152x1024) (off := ![0, 0]) inb_S1152x1024_S1152x1024_0_0 d1 (by decide)
  have e0 : s0B i P X Y (s0A i P X Y (View.ld S1 rS0)) = s0Next i P X Y (View.ld S rS0) := by
    rw [← hS1]; unfold s0Next; split <;> rfl
  have e1 : s1B i P X Y (s1A i P X Y (View.ld S1 rS1)) = s1Next i P X Y (View.ld S rS1) := by
    rw [← hS1]; unfold s1Next; split <;> rfl
  have e2 : s2B i P X Y (s2A i P X Y (View.ld S1 rS2)) = s2Next i P X Y (View.ld S rS2) := by
    rw [← hS1]; unfold s2Next; split <;> rfl
  have edx : dxStep i P X Y YT d1 = dxNext i P X Y YT d := by rw [← hd1]; rfl
  have edy : dyStep i P X Y (View.ld D1 (rDy (i 2))) = dyNext i P X Y (View.ld D (rDy (i 2))) := by
    rw [hD1.1]; rfl
  sl_exec
  have L14 : sound_main.sl.H14_2 c i arg4 arg5 P X Y f4 f5 = [⟨rG1, gB i P X Y⟩, ⟨rG0, gA i P X Y⟩] := by
    delta sound_main.sl.H14_2; simp only [View.readAt_eq_ld, hf4, hf5, eX]; rfl
  have v161 : sound_main.sl.v161 c i arg4 arg5 arg14 P X Y f4 f5 = gM i P X Y := by
    delta sound_main.sl.v161; rw [L14]; exact (View.readCov_eq_canon' _ _ _).trans (View.ld_unit_lit (S := S512x1024) (off := ![0, 0]) inb_S512x1024_S512x1024_0_0 (View.canon _) (by decide))
  have L13 : sound_main.sl.H13_1 c i arg4 arg5 arg6 arg13 arg14 P X Y f4 f5 f6 f13 = [⟨rDx, dxNext i P X Y YT d⟩] := by
    delta sound_main.sl.H13_1; rw [v161, View.readAt_eq_ld, View.readAt_eq_ld, hf13, hf6, eYT, ed1, ← edx]; rfl
  have L12 : sound_main.sl.H12_1 c i arg4 arg5 arg12 arg14 P X Y f4 f5 f12 = [⟨rDy (i 2), dyNext i P X Y (View.ld D (rDy (i 2)))⟩] := by
    delta sound_main.sl.H12_1; rw [v161, View.readAt_eq_ld, View.readAt_eq_ld, hf12, hf4, eX, ← edy]
    generalize hinb : k2_off2_inb i = inb
    clear hinb
    revert inb
    rw [off2_eq]; intro inb; rfl
  have L15a : sound_main.sl.H15_3 c i arg15 P X Y f15 = [⟨rS2, s2A i P X Y (View.ld S1 rS2)⟩, ⟨rS1, s1A i P X Y (View.ld S1 rS1)⟩, ⟨rS0, s0A i P X Y (View.ld S1 rS0)⟩] := by
    delta sound_main.sl.H15_3 sound_main.sl.v69 sound_main.sl.v78; simp only [View.readAt_eq_ld, hf15]; rfl
  have v136 : sound_main.sl.v136 c i arg15 P X Y f15 = s0A i P X Y (View.ld S1 rS0) := by
    delta sound_main.sl.v136
    rw [L15a, cov_miss _ _ _ _ _ rS02.symm, cov_miss _ _ _ _ _ rS01.symm]; exact cov_hit _ _ _ _
  have L15b : sound_main.sl.H15_4 c i arg4 arg5 arg15 P X Y f4 f5 f15 = ⟨rS0, s0Next i P X Y (View.ld S rS0)⟩ :: [⟨rS2, s2A i P X Y (View.ld S1 rS2)⟩, ⟨rS1, s1A i P X Y (View.ld S1 rS1)⟩, ⟨rS0, s0A i P X Y (View.ld S1 rS0)⟩] := by
    delta sound_main.sl.H15_4; simp only [View.readAt_eq_ld, hf4, hf5, eX, v136, L15a, ← e0]; rfl
  have v144 : sound_main.sl.v144 c i arg4 arg5 arg15 P X Y f4 f5 f15 = s1A i P X Y (View.ld S1 rS1) := by
    delta sound_main.sl.v144
    rw [L15b, cov_miss _ _ _ _ _ rS01, cov_miss _ _ _ _ _ rS12.symm]; exact cov_hit _ _ _ _
  have L15c : sound_main.sl.H15_5 c i arg4 arg5 arg15 P X Y f4 f5 f15 = ⟨rS1, s1Next i P X Y (View.ld S rS1)⟩ :: ⟨rS0, s0Next i P X Y (View.ld S rS0)⟩ :: [⟨rS2, s2A i P X Y (View.ld S1 rS2)⟩, ⟨rS1, s1A i P X Y (View.ld S1 rS1)⟩, ⟨rS0, s0A i P X Y (View.ld S1 rS0)⟩] := by
    delta sound_main.sl.H15_5; simp only [View.readAt_eq_ld, hf4, hf5, eX, v144, L15b, ← e1]; rfl
  have v153 : sound_main.sl.v153 c i arg4 arg5 arg15 P X Y f4 f5 f15 = s2A i P X Y (View.ld S1 rS2) := by
    delta sound_main.sl.v153
    rw [L15c, cov_miss _ _ _ _ _ rS12, cov_miss _ _ _ _ _ rS02]; exact cov_hit _ _ _ _
  have L15 : sound_main.sl.H15_6 c i arg4 arg5 arg15 P X Y f4 f5 f15 = ⟨rS2, s2Next i P X Y (View.ld S rS2)⟩ :: ⟨rS1, s1Next i P X Y (View.ld S rS1)⟩ :: ⟨rS0, s0Next i P X Y (View.ld S rS0)⟩ :: [⟨rS2, s2A i P X Y (View.ld S1 rS2)⟩, ⟨rS1, s1A i P X Y (View.ld S1 rS1)⟩, ⟨rS0, s0A i P X Y (View.ld S1 rS0)⟩] := by
    delta sound_main.sl.H15_6; simp only [View.readAt_eq_ld, hf4, hf5, eX, v153, L15c, ← e2]; rfl
  have v188 : sound_main.sl.v188 c i arg4 arg5 arg6 arg13 arg14 P X Y f4 f5 f6 f13 = dxNext i P X Y YT d := by
    delta sound_main.sl.v188; rw [L13]; exact cov_hit _ _ _ _
  have v189 : ∀ h, sound_main.sl.v189 c i arg4 arg5 arg12 arg14 P X Y f4 f5 f12 h = dyNext i P X Y (View.ld D (rDy (i 2))) := by
    intro h
    delta sound_main.sl.v189; rw [L12]
    generalize hinb : k2_off3_inb i h = inb
    clear hinb
    revert inb
    rw [show k2_off3 i = k2_off2 i from rfl, off2_eq]; intro inb
    exact cov_hit arg12.view (rDy (i 2)) _ _
  have v196 : sound_main.sl.v196 c i arg4 arg5 arg15 P X Y f4 f5 f15 = s0Next i P X Y (View.ld S rS0) := by
    delta sound_main.sl.v196
    rw [L15, cov_miss _ _ _ _ _ rS02.symm, cov_miss _ _ _ _ _ rS01.symm]; exact cov_hit _ _ _ _
  have v203 : sound_main.sl.v203 c i arg4 arg5 arg15 P X Y f4 f5 f15 = s1Next i P X Y (View.ld S rS1) := by
    delta sound_main.sl.v203
    rw [L15, cov_miss _ _ _ _ _ rS12.symm]; exact cov_hit _ _ _ _
  have v212 : sound_main.sl.v212 c i arg4 arg5 arg15 P X Y f4 f5 f15 = s2Next i P X Y (View.ld S rS2) := by
    delta sound_main.sl.v212
    rw [L15]; exact cov_hit _ _ _ _
  rw [L12, L13, L15]
  simp only [v188, v189, v196, v203, v212]
  have HD : NextD i P X Y D (arg12.view.read (Elt F) (arg12.view.writes (Elt F) f12 [⟨rDy (i 2), dyNext i P X Y (View.ld D (rDy (i 2)))⟩])) := by
    refine ⟨ld_hit _ _ _ _ _, fun j hj => ?_⟩
    rw [ld_miss _ _ _ _ _ _ (rDy_disj (Ne.symm hj)), ← hD1.2 j hj, ← hf12]; rfl
  have HS : NextS i P X Y S (arg15.view.read (Elt F) (arg15.view.writes (Elt F) f15 (⟨rS2, s2Next i P X Y (View.ld S rS2)⟩ :: ⟨rS1, s1Next i P X Y (View.ld S rS1)⟩ :: ⟨rS0, s0Next i P X Y (View.ld S rS0)⟩ :: [⟨rS2, s2A i P X Y (View.ld S1 rS2)⟩, ⟨rS1, s1A i P X Y (View.ld S1 rS1)⟩, ⟨rS0, s0A i P X Y (View.ld S1 rS0)⟩]))) := by
    refine ⟨?_, ?_, ld_hit _ _ _ _ _⟩
    · rw [ld_miss _ _ _ _ _ _ rS02.symm, ld_miss _ _ _ _ _ _ rS01.symm]; exact ld_hit _ _ _ _ _
    · rw [ld_miss _ _ _ _ _ _ rS12.symm]; exact ld_hit _ _ _ _ _
  sl_step
  iapply Hk $$ %_ %_ %_ %HD %HS [H3] [H4] [H5] [H6] [H7] [H8] [H9] [H10] [H11] [H12] [H13] [H14] [H15]
  · iexists f3; isplitr; · ipureintro; exact hf3
    iexact H3
  · iexists f4; isplitr; · ipureintro; exact hf4
    iexact H4
  · iexists f5; isplitr; · ipureintro; exact hf5
    iexact H5
  · iexists f6; isplitr; · ipureintro; exact hf6
    iexact H6
  · iexists _; isplitr; swap; · iexact H7
    ipureintro
    by_cases h : k2_cond3 i = 1#1
    · rw [dif_pos h, if_pos h, View.read_writes_full]; rfl
    · rw [dif_neg h, if_neg h]; exact hf7
  · iexists _; isplitr; swap; · iexact H8
    ipureintro
    by_cases h : k2_cond3 i = 1#1
    · rw [dif_pos h, if_pos h, View.read_writes_full]; rfl
    · rw [dif_neg h, if_neg h]; exact hf8
  · iexists _; isplitr; swap; · iexact H9
    ipureintro
    by_cases h : k2_cond4 i = 1#1
    · rw [dif_pos h, if_pos h, View.read_writes_full]; rfl
    · rw [dif_neg h, if_neg h]; exact hf9
  · iexists _; isplitr; swap; · iexact H10
    ipureintro
    by_cases h : k2_cond3 i = 1#1
    · rw [dif_pos h, if_pos h, View.read_writes_full]; rfl
    · rw [dif_neg h, if_neg h]; exact hf10
  · iexists _; isplitr; swap; · iexact H11
    ipureintro
    by_cases h : k2_cond3 i = 1#1
    · rw [dif_pos h, if_pos h, View.read_writes_full]; rfl
    · rw [dif_neg h, if_neg h]; exact hf11
  · iexists _; isplitr; swap; · iexact H12
    ipureintro; rfl
  · iexists _; isplitr; swap; · iexact H13
    ipureintro; exact View.read_writes_full _ _ _ _ _
  · iexists _; isplitr; swap; · iexact H14
    ipureintro; rfl
  · iexists _; isplitr; swap; · iexact H15
    ipureintro; rfl

end Cert.Kernel.Hand

end
-- ==== Proof.Kernel.Main.lean ====
/-
  The main pallas_call over its grid of 512 points (batch, block of 1024 rows of x, block of 512 rows of y), program
  as printed: what its accumulators hold after each point (`DXV`, `DYV`, `S0V`, `S1V`, `S2V`, by recursion on the point), the
  invariant that says the scratch buffers hold them, the proof data of the call entered from any contents `V` of the arrays,
  and the body obligation the pipeline library asks for.
-/
module

public import proofs.«01_k».proof.Proof.Kernel.MainBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace R2

variable (V : (c : Dev nD) → Valuation τ sig (Elt F))

/-- Window `w`'s block at point `t`, read off its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Point number `n`. -/
def ix (n : ℕ) : Fin cfg2.N := ⟨n % 512, show n % 512 < grid2.N by rw [N_2]; exact Nat.mod_lt _ (by decide)⟩
theorem ix_val (t : Fin cfg2.N) : ix t.val = t := Fin.ext (Nat.mod_eq_of_lt (lt_of_lt_of_eq (show t.val < grid2.N from t.isLt) N_2))

/-! ## The accumulators -/

/-- The accumulator of the gradient of x after the first `n` points, -/
def DXV (c : Dev nD) : ℕ → Vec F S1152x1024 .f32
  | 0 => k2_pay8
  | n + 1 => dxNext (grid2.coords (ix n)) (iblk V c 0 (ix n)) (iblk V c 1 (ix n)) (iblk V c 2 (ix n)) (iblk V c 3 (ix n)) (DXV c n)
/-- the three sums' rows, -/
def S0V (c : Dev nD) : ℕ → Vec F S1x8x1024 .f32
  | 0 => View.ld k2_pay9 rS0
  | n + 1 => s0Next (grid2.coords (ix n)) (iblk V c 0 (ix n)) (iblk V c 1 (ix n)) (iblk V c 2 (ix n)) (S0V c n)
def S1V (c : Dev nD) : ℕ → Vec F S1x8x1024 .f32
  | 0 => View.ld k2_pay9 rS1
  | n + 1 => s1Next (grid2.coords (ix n)) (iblk V c 0 (ix n)) (iblk V c 1 (ix n)) (iblk V c 2 (ix n)) (S1V c n)
def S2V (c : Dev nD) : ℕ → Vec F S1x8x1024 .f32
  | 0 => View.ld k2_pay9 rS2
  | n + 1 => s2Next (grid2.coords (ix n)) (iblk V c 0 (ix n)) (iblk V c 1 (ix n)) (iblk V c 2 (ix n)) (S2V c n)
/-- and slice `j` of the accumulator of the gradient of y after the first `q` points that visit it. -/
def DYV (c : Dev nD) (j : ℕ) : ℕ → Vec F S1x1152x512 .f32
  | 0 => k2_pay10
  | q + 1 => dyNext (grid2.coords (ix (16 * q + j))) (iblk V c 0 (ix (16 * q + j))) (iblk V c 1 (ix (16 * q + j))) (iblk V c 2 (ix (16 * q + j))) (DYV c j q)

/-- How many of the first `n` points visit slice `j`. -/
def visits (j n : ℕ) : ℕ := (n + 15 - j) / 16

/-- What the scratch buffers hold before point `n`. -/
def Inv (c : Dev nD) (n : ℕ) (D : Vec F S16x1152x512 .f32) (d : Vec F S1152x1024 .f32) (S : Vec F S3x8x1024 .f32) : Prop :=
  (n = 0 ∨ (d = DXV V c n ∧ View.ld S rS0 = S0V V c n ∧ View.ld S rS1 = S1V V c n ∧ View.ld S rS2 = S2V V c n))
    ∧ ∀ j : Fin 16, visits j.val n = 0 ∨ View.ld D (rDy j) = DYV V c j.val (visits j.val n)

/-! ## The grid's conditions -/

theorem coord2 : ∀ t : Fin cfg2.N, (grid2.coords t 2).val = t.val % 16 :=
  (by decide +kernel : ∀ t : Fin grid2.N, (grid2.coords t 2).val = t.val % 16)
theorem coord1 : ∀ t : Fin cfg2.N, (grid2.coords t 1).val = t.val / 16 % 8 :=
  (by decide +kernel : ∀ t : Fin grid2.N, (grid2.coords t 1).val = t.val / 16 % 8)
theorem coord0 : ∀ t : Fin cfg2.N, (grid2.coords t 0).val = t.val / 128 :=
  (by decide +kernel : ∀ t : Fin grid2.N, (grid2.coords t 0).val = t.val / 128)
theorem cond1_iff : ∀ t : Fin cfg2.N, cond1 (grid2.coords t) = 1#1 ↔ t.val % 16 = 0 :=
  (by decide +kernel : ∀ t : Fin grid2.N, cond1 (grid2.coords t) = 1#1 ↔ t.val % 16 = 0)
theorem cond2_iff : ∀ t : Fin cfg2.N, k2_cond2 (grid2.coords t) = 1#1 ↔ t.val / 16 % 8 = 0 :=
  (by decide +kernel : ∀ t : Fin grid2.N, k2_cond2 (grid2.coords t) = 1#1 ↔ t.val / 16 % 8 = 0)
theorem cond3_iff : ∀ t : Fin cfg2.N, k2_cond3 (grid2.coords t) = 1#1 ↔ t.val % 16 = 15 :=
  (by decide +kernel : ∀ t : Fin grid2.N, k2_cond3 (grid2.coords t) = 1#1 ↔ t.val % 16 = 15)
theorem cond4_iff : ∀ t : Fin cfg2.N, k2_cond4 (grid2.coords t) = 1#1 ↔ t.val / 16 % 8 = 7 :=
  (by decide +kernel : ∀ t : Fin grid2.N, k2_cond4 (grid2.coords t) = 1#1 ↔ t.val / 16 % 8 = 7)
theorem flush6_iff : ∀ t : Fin cfg2.N, (cfg2.win 6).flush t = true ↔ t.val / 16 % 8 = 7 :=
  (by decide +kernel : ∀ t : Fin grid2.N, win2_6.flush t = true ↔ t.val / 16 % 8 = 7)

/-! ## One step -/

theorem dx_step (c : Dev nD) (t : Fin cfg2.N) {D d S} (h : Inv V c t.val D d S) :
    dxNext (grid2.coords t) (iblk V c 0 t) (iblk V c 1 t) (iblk V c 2 t) (iblk V c 3 t) d = DXV V c (t.val + 1) := by
  show _ = dxNext _ _ _ _ _ _
  rw [ix_val]
  rcases h.1 with h0 | h0
  · unfold dxNext; rw [if_pos ((cond1_iff t).mpr (by omega)), if_pos ((cond1_iff t).mpr (by omega))]
  · rw [h0.1]
theorem s0_step (c : Dev nD) (t : Fin cfg2.N) {D d S} (h : Inv V c t.val D d S) :
    s0Next (grid2.coords t) (iblk V c 0 t) (iblk V c 1 t) (iblk V c 2 t) (View.ld S rS0) = S0V V c (t.val + 1) := by
  show _ = s0Next _ _ _ _ _
  rw [ix_val]
  rcases h.1 with h0 | h0
  · unfold s0Next; rw [if_pos ((cond1_iff t).mpr (by omega)), if_pos ((cond1_iff t).mpr (by omega))]
  · rw [h0.2.1]
theorem s1_step (c : Dev nD) (t : Fin cfg2.N) {D d S} (h : Inv V c t.val D d S) :
    s1Next (grid2.coords t) (iblk V c 0 t) (iblk V c 1 t) (iblk V c 2 t) (View.ld S rS1) = S1V V c (t.val + 1) := by
  show _ = s1Next _ _ _ _ _
  rw [ix_val]
  rcases h.1 with h0 | h0
  · unfold s1Next; rw [if_pos ((cond1_iff t).mpr (by omega)), if_pos ((cond1_iff t).mpr (by omega))]
  · rw [h0.2.2.1]
theorem s2_step (c : Dev nD) (t : Fin cfg2.N) {D d S} (h : Inv V c t.val D d S) :
    s2Next (grid2.coords t) (iblk V c 0 t) (iblk V c 1 t) (iblk V c 2 t) (View.ld S rS2) = S2V V c (t.val + 1) := by
  show _ = s2Next _ _ _ _ _
  rw [ix_val]
  rcases h.1 with h0 | h0
  · unfold s2Next; rw [if_pos ((cond1_iff t).mpr (by omega)), if_pos ((cond1_iff t).mpr (by omega))]
  · rw [h0.2.2.2]
theorem dy_step (c : Dev nD) (t : Fin cfg2.N) {D d S} (h : Inv V c t.val D d S) :
    dyNext (grid2.coords t) (iblk V c 0 t) (iblk V c 1 t) (iblk V c 2 t) (View.ld D (rDy (grid2.coords t 2))) = DYV V c (t.val % 16) (t.val / 16 + 1) := by
  show _ = dyNext _ _ _ _ _
  rw [show 16 * (t.val / 16) + t.val % 16 = t.val from Nat.div_add_mod _ _, ix_val]
  have hv : visits (grid2.coords t 2).val t.val = t.val / 16 := by rw [coord2]; unfold visits; omega
  have h2 := h.2 (grid2.coords t 2)
  rw [hv, coord2] at h2
  rcases h2 with h0 | h0
  · unfold dyNext; rw [if_pos ((cond2_iff t).mpr (by omega)), if_pos ((cond2_iff t).mpr (by omega))]
  · rw [h0]

/-- The invariant after the body from the invariant before it. -/
theorem inv_step (c : Dev nD) (t : Fin cfg2.N) {D D' d S S'} (h : Inv V c t.val D d S)
    (hD : NextD (grid2.coords t) (iblk V c 0 t) (iblk V c 1 t) (iblk V c 2 t) D D') (hS : NextS (grid2.coords t) (iblk V c 0 t) (iblk V c 1 t) (iblk V c 2 t) S S') :
    Inv V c (t.val + 1) D' (dxNext (grid2.coords t) (iblk V c 0 t) (iblk V c 1 t) (iblk V c 2 t) (iblk V c 3 t) d) S' := by
  refine ⟨Or.inr ⟨dx_step V c t h, hS.1.trans (s0_step V c t h), hS.2.1.trans (s1_step V c t h), hS.2.2.trans (s2_step V c t h)⟩, fun j => ?_⟩
  by_cases hj : j = grid2.coords t 2
  · right
    subst hj
    rw [hD.1, dy_step V c t h, coord2]
    congr 1
    unfold visits; omega
  · have hj' : j.val ≠ t.val % 16 := fun e => hj (Fin.ext (e.trans (coord2 t).symm))
    have hjlt := j.isLt
    rw [hD.2 j hj, show visits j.val (t.val + 1) = visits j.val t.val from by unfold visits; omega]
    exact h.2 j

/-! ## The proof data -/

/-- The invariant before point `n`: the scratch buffers at contents `Inv` describes; the other calls' staging buffers. -/
def Phi (c : Dev nD) (n : ℕ) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)
    ∗ ∃ (D : Vec F S16x1152x512 .f32) (d : Vec F S1152x1024 .f32) (G : Vec F S512x1024 .bf16) (S : Vec F S3x8x1024 .f32),
      ⌜Inv V c n D d S⌝ ∗ owns (c : Thread nD τ) (Memref.whole cc2_scratch0) fullShare D ∗ owns (c : Thread nD τ) (Memref.whole cc2_scratch1) fullShare d ∗ owns (c : Thread nD τ) (Memref.whole cc2_scratch2) fullShare G ∗ owns (c : Thread nD τ) (Memref.whole cc2_scratch3) fullShare S)

/-- The call is entered with the scoped buffers at any contents; -/
theorem Phi_enter (c : Dev nD) :
    (Pipeline.scopedRest (Ix := Unit) (Name := ℕ) (U := UR sig nD τ) (Lvl := ℕ) (Val := Elt F) (cfgs 2).spec c : sProp 𝕄) ⊢ Phi V c 0 := by
  rw [show (Pipeline.scopedRest (Ix := Unit) (Name := ℕ) (U := UR sig nD τ) (Lvl := ℕ) (Val := Elt F) (cfgs 2).spec c : sProp 𝕄) = _ from scopedRest2_eq c]
  unfold Phi
  iintro ⟨H0, H1, H2, H3, H4, H5, H6, H7, H8, H9, H10, H11, H12, H13, ⟨%D, K0⟩, ⟨%d, K1⟩, ⟨%G, K2⟩, ⟨%S, K3⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists D; iexists d; iexists G; iexists S
  isplitr
  · ipureintro
    refine ⟨Or.inl rfl, fun j => Or.inl ?_⟩
    have := j.isLt
    unfold visits; omega
  isplitl [K0]; · rw [owns_whole]; iexact K0
  isplitl [K1]; · rw [owns_whole]; iexact K1
  isplitl [K2]; · rw [owns_whole]; iexact K2
  rw [owns_whole]; iexact K3
/-- and left so. -/
theorem Phi_leave (c : Dev nD) (n : ℕ) :
    Phi V c n ⊢ (Pipeline.scopedRest (Ix := Unit) (Name := ℕ) (U := UR sig nD τ) (Lvl := ℕ) (Val := Elt F) (cfgs 2).spec c : sProp 𝕄) := by
  rw [show (Pipeline.scopedRest (Ix := Unit) (Name := ℕ) (U := UR sig nD τ) (Lvl := ℕ) (Val := Elt F) (cfgs 2).spec c : sProp 𝕄) = _ from scopedRest2_eq c]
  unfold Phi
  simp only [owns_whole]
  iintro ⟨H0, H1, H2, H3, H4, H5, H6, H7, H8, H9, H10, H11, H12, H13, %D, %d, %G, %S, -, K0, K1, K2, K3⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [K0]; · iexists D; iexact K0
  isplitl [K1]; · iexists d; iexact K1
  isplitl [K2]; · iexists G; iexact K2
  iexists S; iexact K3

/-- The proof data: the arrays as the call finds them; after the body each input's buffer at its block and each output's at
    its function of the accumulators; the invariant `Phi`; nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => outLoss (S0V V c (t.val + 1))
    | ⟨5, _⟩ => outDx (iblk V c 0 t) (DXV V c (t.val + 1))
    | ⟨6, _⟩ => outDy (iblk V c 0 t) (DYV V c (t.val % 16) (t.val / 16 + 1))
    | ⟨7, _⟩ => outDt (iblk V c 0 t) (S1V V c (t.val + 1))
    | ⟨8, _⟩ => outDb (iblk V c 0 t) (S2V V c (t.val + 1))
  Φ t := Phi V c t.val
  q _ := fullShare
  owed _ := 0

theorem A_eq (c : Dev nD) (w : Fin cfg2.W) : (dat V c).A w = V c (Pipeline.arrRef spec2 w) := by
  dsimp only [dat]
theorem Phi_castSucc (c : Dev nD) (t : Fin cfg2.N) : (dat V c).Φ t.castSucc = Phi V c t.val := by
  dsimp only [dat]; exact Pipeline.Dat.Φ_castSucc (fun n _ => Phi V c n) t
theorem Phi_succ (c : Dev nD) (t : Fin cfg2.N) : (dat V c).Φ t.succ = Phi V c (t.val + 1) := by
  dsimp only [dat]; rfl
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = outLoss (S0V V c (t.val + 1)) := by dsimp only [dat]
theorem after5 (c : Dev nD) (t : Fin cfg2.N) : (dat V c).after 5 t = outDx (iblk V c 0 t) (DXV V c (t.val + 1)) := by dsimp only [dat]
theorem after6 (c : Dev nD) (t : Fin cfg2.N) : (dat V c).after 6 t = outDy (iblk V c 0 t) (DYV V c (t.val % 16) (t.val / 16 + 1)) := by dsimp only [dat]
theorem after7 (c : Dev nD) (t : Fin cfg2.N) : (dat V c).after 7 t = outDt (iblk V c 0 t) (S1V V c (t.val + 1)) := by dsimp only [dat]
theorem after8 (c : Dev nD) (t : Fin cfg2.N) : (dat V c).after 8 t = outDb (iblk V c 0 t) (S2V V c (t.val + 1)) := by dsimp only [dat]

/-- Each input's current staging buffer holds its block at every point. -/
theorem before0 (c : Dev nD) (t : Fin cfg2.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg2.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg2.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg2.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- What the obligation asks of output window `w`'s buffer after the body: its contents of the proof data, or, where the
    body stores nothing into it and no write-back follows, what it held. -/
def leaves (c : Dev nD) (w : Fin cfg2.W) (t : Fin cfg2.N) : sProp 𝕄 :=
  match cfg2.idle w (cfg2.grid.coords t) with
  | true =>
    match (cfg2.win w).flush t with
    | false => iprop(∃ d, owns c ((cfg2.win w).stage (cfg2.slots t w)) fullShare ((dat V c).before w t d))
    | true => owns c ((cfg2.win w).stage (cfg2.slots t w)) fullShare ((dat V c).after w t)
  | false => owns c ((cfg2.win w).stage (cfg2.slots t w)) fullShare ((dat V c).after w t)

theorem leaves_of (c : Dev nD) (w : Fin cfg2.W) (t : Fin cfg2.N) (p : Prop) [Decidable p] (d X)
    (hi : cfg2.idle w (cfg2.grid.coords t) = true → ¬ p) (hi' : cfg2.idle w (cfg2.grid.coords t) = false → p)
    (hf : (cfg2.win w).flush t = true → p) (hX : X = if p then (dat V c).after w t else (dat V c).before w t d) :
    (owns (c : Thread nD τ) ((cfg2.win w).stage (cfg2.slots t w)) fullShare X : sProp 𝕄) ⊢ leaves V c w t := by
  unfold leaves
  subst hX
  by_cases hp : p
  · rw [if_pos hp]
    split
    · rename_i e; exact absurd hp (hi e)
    · exact .rfl
  · rw [if_neg hp]
    split
    · split
      · iintro H; iexists d; iexact H
      · rename_i e'; exact absurd (hf e') hp
    · rename_i e; exact absurd (hi' e) hp

theorem not_beq_iff {b : BitVec 1} : ((!(b == 1#1)) = true → ¬ b = 1#1) ∧ ((!(b == 1#1)) = false → b = 1#1) := by
  revert b; decide

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ leaves V c 4 t ∗ leaves V c 5 t ∗ leaves V c 6 t ∗ leaves V c 7 t ∗ leaves V c 8 t)

set_option maxHeartbeats 4000000 in
/-- The body at any point: `sound_main` from the invariant's contents, the invariant after it by `inv_step`. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3]
  rw [Phi_castSucc, Phi_succ, show (dat V c).owesAt () t.succ = (dat V c).owesAt () t.castSucc from rfl,
    after0, after1, after2, after3]
  unfold Phi
  iintro ⟨⟨HR0, HR1, HR2, HR3, HR4, HR5, HR6, HR7, HR8, HR9, HR10, HR11, HR12, HR13, %D, %d, %G, %S, %hI, K0, K1, K2, K3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_main c Set.univ (grid2.coords t) _ _ _ _ _ _ _ _ _ _ _ _ _ _ _ _ _ _ _ _ _ _ _ _ _ _ (iblk V c 0 t) (iblk V c 1 t) (iblk V c 2 t) (iblk V c 3 t) ((dat V c).before 4 t d4) ((dat V c).before 5 t d5) ((dat V c).before 6 t d6) ((dat V c).before 7 t d7) ((dat V c).before 8 t d8) D d G S _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [K0]; · iexact K0
  isplitl [K1]; · iexact K1
  isplitl [K2]; · iexact K2
  isplitl [K3]; · iexact K3
  iintro %D' %G' %S' %hD %hS H0 H1 H2 H3 H4 H5 H6 H7 H8 K0 K1 K2 K3
  rw [s0_step V c t hI, s1_step V c t hI, s2_step V c t hI, dy_step V c t hI]
  isplitl [HR0 HR1 HR2 HR3 HR4 HR5 HR6 HR7 HR8 HR9 HR10 HR11 HR12 HR13 K0 K1 K2 K3]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    iexists D'; iexists _; iexists G'; iexists S'
    isplitr; · ipureintro; exact inv_step V c t hI hD hS
    isplitl [K0]; · iexact K0
    isplitl [K1]; · iexact K1
    isplitl [K2]; · iexact K2
    iexact K3
  rw [dx_step V c t hI]
  isplitl [Ho]; · iexact Ho
  isplitl [H0]; · iexact H0
  isplitl [H1]; · iexact H1
  isplitl [H2]; · iexact H2
  isplitl [H3]; · iexact H3
  isplitl [H4]; · iapply (leaves_of V c 4 t (k2_cond3 (grid2.coords t) = 1#1) d4 _ not_beq_iff.1 not_beq_iff.2 (fun e => (cond3_iff t).mpr ((flush2_4 t).mp e)) (by rw [after4])); iexact H4
  isplitl [H5]; · iapply (leaves_of V c 5 t (k2_cond3 (grid2.coords t) = 1#1) d5 _ not_beq_iff.1 not_beq_iff.2 (fun e => (cond3_iff t).mpr ((flush2_5 t).mp e)) (by rw [after5])); iexact H5
  isplitl [H6]; · iapply (leaves_of V c 6 t (k2_cond4 (grid2.coords t) = 1#1) d6 _ not_beq_iff.1 not_beq_iff.2 (fun e => (cond4_iff t).mpr ((flush6_iff t).mp e)) (by rw [after6])); iexact H6
  isplitl [H7]; · iapply (leaves_of V c 7 t (k2_cond3 (grid2.coords t) = 1#1) d7 _ not_beq_iff.1 not_beq_iff.2 (fun e => (cond3_iff t).mpr ((flush2_7 t).mp e)) (by rw [after7])); iexact H7
  iapply (leaves_of V c 8 t (k2_cond3 (grid2.coords t) = 1#1) d8 _ not_beq_iff.1 not_beq_iff.2 (fun e => (cond3_iff t).mpr ((flush2_8 t).mp e)) (by rw [after8])); iexact H8

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end R2

end Cert.Kernel.Hand

end
-- ==== Proof.Kernel.Run.lean ====
/-
  The run of the whole program (as printed), at any float semantics: from any memory every weakly fair execution terminates,
  every unscoped buffer then holds what the last valuation of the chain says, every semaphore counter is zero. The chain:
  the launch, the two calls that build the operands, the host's scalars, the main call, the host's reshapes.
-/
module

public import proofs.«01_k».proof.Proof.Kernel.Prep
public import proofs.«01_k».proof.Proof.Kernel.Main
public import proofs.«01_k».proof.Proof.Gen.Kernel.Launch

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each call leaves -/

/-- The buffers after the call that builds the transposed x. -/
def U1 (c : Dev nD) : Valuation τ sig (Elt F) := Function.update (V0 m c) main_v0 ((R0.dat (V0 m) c).arrAt 2 cfg0.N)
/-- The buffers after the call that builds y and the transposed y. -/
def U2 (c : Dev nD) : Valuation τ sig (Elt F) :=
  Function.update (Function.update (U1 m c) main_v1_0 ((R1.dat (U1 m) c).arrAt 2 cfg1.N)) main_v1_1 ((R1.dat (U1 m) c).arrAt 3 cfg1.N)
/-- The buffers after the host's scalars: the main call's entry. -/
def U3 (c : Dev nD) : Valuation τ sig (Elt F) := StableHlo.after hostOps2 (U2 m c)
/-- The buffers after the main call. -/
def U4 (c : Dev nD) : Valuation τ sig (Elt F) :=
  Function.update (Function.update (Function.update (Function.update (Function.update (U3 m c)
    main_v7_0 ((R2.dat (U3 m) c).arrAt 4 cfg2.N)) main_v7_1 ((R2.dat (U3 m) c).arrAt 5 cfg2.N))
    main_v7_2 ((R2.dat (U3 m) c).arrAt 6 cfg2.N)) main_v7_3 ((R2.dat (U3 m) c).arrAt 7 cfg2.N))
    main_v7_4 ((R2.dat (U3 m) c).arrAt 8 cfg2.N)

/-- What the calls leave, item by item. -/
def outs : Outs (F := F) := fun k r c => match k with
  | 1 => U1 m c r
  | 2 => U2 m c r
  | _ => U4 m c r

theorem U1_v0 (c : Dev nD) : U1 m c main_v0 = (R0.dat (V0 m) c).arrAt 2 cfg0.N := by
  unfold U1; exact Function.update_self ..
theorem U2_v1_1 (c : Dev nD) : U2 m c main_v1_1 = (R1.dat (U1 m) c).arrAt 3 cfg1.N := by
  unfold U2; exact Function.update_self ..
theorem U2_v1_0 (c : Dev nD) : U2 m c main_v1_0 = (R1.dat (U1 m) c).arrAt 2 cfg1.N := by
  unfold U2; rw [Function.update_of_ne (by decide)]; exact Function.update_self ..
theorem U4_v7_4 (c : Dev nD) : U4 m c main_v7_4 = (R2.dat (U3 m) c).arrAt 8 cfg2.N := by
  unfold U4; exact Function.update_self ..
theorem U4_v7_3 (c : Dev nD) : U4 m c main_v7_3 = (R2.dat (U3 m) c).arrAt 7 cfg2.N := by
  unfold U4; rw [Function.update_of_ne (by decide)]; exact Function.update_self ..
theorem U4_v7_2 (c : Dev nD) : U4 m c main_v7_2 = (R2.dat (U3 m) c).arrAt 6 cfg2.N := by
  unfold U4; rw [Function.update_of_ne (by decide), Function.update_of_ne (by decide)]; exact Function.update_self ..
theorem U4_v7_1 (c : Dev nD) : U4 m c main_v7_1 = (R2.dat (U3 m) c).arrAt 5 cfg2.N := by
  unfold U4; rw [Function.update_of_ne (by decide), Function.update_of_ne (by decide), Function.update_of_ne (by decide)]; exact Function.update_self ..
theorem U4_v7_0 (c : Dev nD) : U4 m c main_v7_0 = (R2.dat (U3 m) c).arrAt 4 cfg2.N := by
  unfold U4; rw [Function.update_of_ne (by decide), Function.update_of_ne (by decide), Function.update_of_ne (by decide), Function.update_of_ne (by decide)]; exact Function.update_self ..

theorem V1_eq (c : Dev nD) : V1 m (outs m) c = U1 m c := by
  have e0 : outs m 1 main_v0 c = _ := U1_v0 m c
  unfold V1; rw [e0]; rfl
theorem V2_eq (c : Dev nD) : V2 m (outs m) c = U2 m c := by
  have e0 : outs m 2 main_v1_0 c = _ := U2_v1_0 m c
  have e1 : outs m 2 main_v1_1 c = _ := U2_v1_1 m c
  unfold V2; rw [V1_eq, e0, e1]; rfl
theorem V3_eq (c : Dev nD) : V3 m (outs m) c = U3 m c := by
  unfold V3 U3; rw [V2_eq]
theorem V4_eq (c : Dev nD) : V4 m (outs m) c = U4 m c := by
  have e0 : outs m 4 main_v7_0 c = _ := U4_v7_0 m c
  have e1 : outs m 4 main_v7_1 c = _ := U4_v7_1 m c
  have e2 : outs m 4 main_v7_2 c = _ := U4_v7_2 m c
  have e3 : outs m 4 main_v7_3 c = _ := U4_v7_3 m c
  have e4 : outs m 4 main_v7_4 c = _ := U4_v7_4 m c
  unfold V4; rw [V3_eq, e0, e1, e2, e3, e4]; rfl
/-- The last valuation: the host's reshapes of the main call's results. -/
theorem V5_eq (c : Dev nD) : V5 m (outs m) c = StableHlo.after hostOps3 (U4 m c) := by
  unfold V5; rw [V4_eq]

/-! ## The three calls' records -/

/-- The calls' proof data. -/
def pdats (p : Fin 3) (c : Dev nD) : Dat τ (Elt F) Unit ℕ (UR sig nD τ) ℕ (cfgs p) c := match p with
  | ⟨0, _⟩ => R0.dat (V0 m) c
  | ⟨1, _⟩ => R1.dat (U1 m) c
  | ⟨2, _⟩ => R2.dat (U3 m) c

set_option backward.isDefEq.respectTransparency.types false in
/-- The first call's record. -/
def reg0 : RegionSeg (pcfgs (F := F)) adm (pdats m) () defs₀ Variants.none L lv 0 :=
  reg (pdats m) 0 launch0 (V0 m) (V1 m (outs m))
    (fun c => R0.body_obligation (V0 m) c) (fun c w => R0.A_eq (V0 m) c w)
    (fun c => .rfl) (fun c => .rfl) (fun c t => rfl) (fun c t x => trivial) (fun c w => rfl)
    (fun c w => by
      rw [V1_eq]
      match w with
      | ⟨0, _⟩ => exact (congrFun (V1_eq m c) _).symm.trans ((V1_of m (outs m) c _ (show Pipeline.arrRef (cfgs 0).spec 0 ∉ _ from by decide)).trans (((R0.dat (V0 m) c).arrAt_in 0 rfl _).trans (R0.A_eq (V0 m) c 0)).symm)
      | ⟨1, _⟩ => exact (congrFun (V1_eq m c) _).symm.trans ((V1_of m (outs m) c _ (show Pipeline.arrRef (cfgs 0).spec 1 ∉ _ from by decide)).trans (((R0.dat (V0 m) c).arrAt_in 1 rfl _).trans (R0.A_eq (V0 m) c 1)).symm)
      | ⟨2, _⟩ => exact U1_v0 m c)
    (fun c b hb => V1_of m (outs m) c b fun h => hb (by revert h; revert b; decide))

set_option backward.isDefEq.respectTransparency.types false in
/-- The second call's record. -/
def reg1 : RegionSeg (pcfgs (F := F)) adm (pdats m) () defs₀ Variants.none L lv 1 :=
  reg (pdats m) 1 launch1 (U1 m) (V2 m (outs m))
    (fun c => R1.body_obligation (U1 m) c) (fun c w => R1.A_eq (U1 m) c w)
    (fun c => .rfl) (fun c => .rfl) (fun c t => rfl) (fun c t x => trivial) (fun c w => rfl)
    (fun c w => by
      match w with
      | ⟨0, _⟩ => exact (V2_of m (outs m) c _ (show Pipeline.arrRef (cfgs 1).spec 0 ∉ _ from by decide)).trans ((congrFun (V1_eq m c) _).trans (((R1.dat (U1 m) c).arrAt_in 0 rfl _).trans (R1.A_eq (U1 m) c 0)).symm)
      | ⟨1, _⟩ => exact (V2_of m (outs m) c _ (show Pipeline.arrRef (cfgs 1).spec 1 ∉ _ from by decide)).trans ((congrFun (V1_eq m c) _).trans (((R1.dat (U1 m) c).arrAt_in 1 rfl _).trans (R1.A_eq (U1 m) c 1)).symm)
      | ⟨2, _⟩ => exact (congrFun (V2_eq m c) _).trans (U2_v1_0 m c)
      | ⟨3, _⟩ => exact (congrFun (V2_eq m c) _).trans (U2_v1_1 m c))
    (fun c b hb => (V2_of m (outs m) c b fun h => hb (by revert h; revert b; decide)).trans (congrFun (V1_eq m c) _))

set_option backward.isDefEq.respectTransparency.types false in
/-- The main call's record. -/
def reg2 : RegionSeg (pcfgs (F := F)) adm (pdats m) () defs₀ Variants.none L lv 2 :=
  reg (pdats m) 2 launch2 (U3 m) (V4 m (outs m))
    (fun c => R2.body_obligation (U3 m) c) (fun c w => R2.A_eq (U3 m) c w)
    (fun c => R2.Phi_enter (U3 m) c) (fun c => R2.Phi_leave (U3 m) c _) (fun c t => rfl) (fun c t x => trivial) (fun c w => rfl)
    (fun c w => by
      match w with
      | ⟨0, _⟩ => exact (V4_of m (outs m) c _ (show Pipeline.arrRef (cfgs 2).spec 0 ∉ _ from by decide)).trans ((congrFun (V3_eq m c) _).trans (((R2.dat (U3 m) c).arrAt_in 0 rfl _).trans (R2.A_eq (U3 m) c 0)).symm)
      | ⟨1, _⟩ => exact (V4_of m (outs m) c _ (show Pipeline.arrRef (cfgs 2).spec 1 ∉ _ from by decide)).trans ((congrFun (V3_eq m c) _).trans (((R2.dat (U3 m) c).arrAt_in 1 rfl _).trans (R2.A_eq (U3 m) c 1)).symm)
      | ⟨2, _⟩ => exact (V4_of m (outs m) c _ (show Pipeline.arrRef (cfgs 2).spec 2 ∉ _ from by decide)).trans ((congrFun (V3_eq m c) _).trans (((R2.dat (U3 m) c).arrAt_in 2 rfl _).trans (R2.A_eq (U3 m) c 2)).symm)
      | ⟨3, _⟩ => exact (V4_of m (outs m) c _ (show Pipeline.arrRef (cfgs 2).spec 3 ∉ _ from by decide)).trans ((congrFun (V3_eq m c) _).trans (((R2.dat (U3 m) c).arrAt_in 3 rfl _).trans (R2.A_eq (U3 m) c 3)).symm)
      | ⟨4, _⟩ => exact (congrFun (V4_eq m c) _).trans (U4_v7_0 m c)
      | ⟨5, _⟩ => exact (congrFun (V4_eq m c) _).trans (U4_v7_1 m c)
      | ⟨6, _⟩ => exact (congrFun (V4_eq m c) _).trans (U4_v7_2 m c)
      | ⟨7, _⟩ => exact (congrFun (V4_eq m c) _).trans (U4_v7_3 m c)
      | ⟨8, _⟩ => exact (congrFun (V4_eq m c) _).trans (U4_v7_4 m c))
    (fun c b hb => (V4_of m (outs m) c b fun h => hb (by revert h; revert b; decide)).trans (congrFun (V3_eq m c) _))

/-! ## The run -/

/-- What rides beside the buffers between the items. -/
def E (_ : Fin 4) (c : Dev nD) : sProp 𝕄 := rest (F := F) c

set_option backward.isDefEq.respectTransparency.types false in
/-- THE RUN, given the three calls' records: every weakly fair execution from memory `m` terminates, and every final state
    holds each unscoped buffer at the last valuation and every semaphore counter at zero. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V1 m outs c) ∗ E 1 c) ⊢ R1.pre c)
    (hpost1 : ∀ c : Dev nD, R1.post c ⊢ iprop(StableHlo.held (c : Thread nD τ) (Pipeline.ucRefs τ sig) (V2 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V3 m outs c) ∗ E 2 c) ⊢ R2.pre c)
    (hpost2 : ∀ c : Dev nD, R2.post c ⊢ iprop(StableHlo.held (c : Thread nD τ) (Pipeline.ucRefs τ sig) (V4 m outs c) ∗ E 3 c)) :
    θ_run defs (onTc (τ := τ) (main (F := F))) ⟨m, fun _ => 0, ρ⟩ (fun r => (∀ c : Dev nD, ∀ r₀ : Ref sig .tc, ¬ r₀.isScoped → r.2.mem ((c.tc : Thread nD τ).loc r₀) = V5 m outs c r₀) ∧ r.2.sem = fun _ => 0) := by
  refine Pipeline.θ_run_regions_kit_dev_sems (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨hpre0 c, (hpost0 c).trans (hpre1 c), hpost1 c, hpre2 c, hpost2 c, sep_mono .rfl (hE3 c)⟩)
    (hinit := ?_) (QY := fun c s => ∀ r₀ : Ref sig .tc, ¬ r₀.isScoped → s.mem ((c.tc : Thread nD τ).loc r₀) = V5 m outs c r₀)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each unscoped buffer read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact fun r₀ hr => h (Proc.devRef .tc r₀) (Finset.mem_filter.mpr ⟨StableHlo.devRef_mem_tcRefs r₀, hr⟩)
    · iexact HSI

/-- THE RUN: every weakly fair execution from memory `m` terminates, every unscoped buffer then holds what the chain of
    valuations says, every semaphore counter is zero. -/
theorem run_all (ρ : Dev nD → PrngReg) :
    θ_run defs (onTc (τ := τ) (main (F := F))) ⟨m, fun _ => 0, ρ⟩ (fun r =>
      (∀ c : Dev nD, ∀ r₀ : Ref sig .tc, ¬ r₀.isScoped → r.2.mem ((c.tc : Thread nD τ).loc r₀) = V5 m (outs m) c r₀)
      ∧ r.2.sem = fun _ => 0) := by
  refine run_cond (Ix := Unit) (U := UR sig nD τ) (Lvl := ℕ) m emb₁ () Variants.none L lv (fun _ _ => rfl) ρ (outs m) (pdats m)
    (fun _ => 0) (fun _ => (BI.emp : sProp 𝕄)) (initOf (Pipeline.cells cfgs cellOf_inj) (Pipeline.launchToks cfgs cellOf_inj)) ?_
    (E (F := F)) ?_ (fun c => .rfl) (reg0 m) (fun c => .rfl) (fun c => .rfl)
    (reg1 m) (fun c => ?_) (fun c => .rfl) (reg2 m) (fun c => ?_) (fun c => .rfl)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep (Finset.univ : Finset (Dev nD)) (fun _ => (BI.emp : sProp 𝕄)) from by rw [BI.bigSep_emp_const])
    iempintro
  · have h : ∀ c : Dev nD, iprop(unscopedSems0 c ∗ owes (c : Thread nD τ) (0 : CellTallies nD τ sig Unit) ∅ ∗ Pipeline.launchCred (fun _ => 0) c ∗ prngReg c (ρ c) ∗ BI.emp)
        ⊢ (E (F := F) 0 c : sProp 𝕄) := fun c => by
      unfold E rest
      iintro ⟨-, HO, -, -, -⟩
      iexists _; iexact HO
    have hb : bigSep Finset.univ (fun c : Dev nD => iprop(unscopedSems0 c ∗ owes (c : Thread nD τ) (0 : CellTallies nD τ sig Unit) ∅ ∗ Pipeline.launchCred (fun _ => 0) c ∗ prngReg c (ρ c) ∗ BI.emp))
        ⊢ (bigSep Finset.univ (E (F := F) 0) : sProp 𝕄) := bigSep_mono fun c _ => h c
    iintro ⟨H, -⟩
    imodintro
    ihave H' := hb $$ H
    iexact H'
  · rw [V1_eq]; exact .rfl
  · rw [V3_eq]; exact .rfl

/-- THE FRAME: every weakly fair execution terminates, the arguments end as they began, every semaphore counter is zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c main_arg0 (by decide)).trans (V5_main_arg0 m _ c), (h.1 c main_arg1 (by decide)).trans (V5_main_arg1 m _ c), (h.1 c main_arg2 (by decide)).trans (V5_main_arg2 m _ c), (h.1 c main_arg3 (by decide)).trans (V5_main_arg3 m _ c), (h.1 c main_arg4 (by decide)).trans (V5_main_arg4 m _ c), (h.1 c main_arg5 (by decide)).trans (V5_main_arg5 m _ c)⟩, h.2⟩) (run_all m ρ)

end Cert.Kernel.Hand

end
-- ==== Proof.KernelIdeal.Region.lean ====
/-
  How a pallas_call of the kernel program (with its constants named) is entered and left, for any of its three calls: the call is entered
  holding every unscoped buffer at a valuation `V c`, and left holding them at a valuation `Vp c` that has the call's
  arrays at what the pipeline library computes from the proof data and agrees with `V c` everywhere else.
-/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.RegionsLoop
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- No core owes another anything: no level is assigned. -/
abbrev L : GSem nD τ sig → Finset Unit := fun _ => ∅
abbrev lv : GSem nD τ sig → Unit → ℕ := fun _ _ => 0

/-- What rides along beside the unscoped buffers between the items of @main: the core's `owes`, at nothing owed. -/
abbrev rest (c : Dev nD) : sProp 𝕄 := iprop(∃ W, owes (c : Thread nD τ) (0 : CellTallies nD τ sig Unit) W)

variable (pdats : (p : Fin 3) → (c : Dev nD) → Dat τ (Elt F) Unit ℕ (UR sig nD τ) ℕ (cfgs p) c)

set_option backward.isDefEq.respectTransparency.types false in
/-- The record of call `p`, from the launch facts of the call (`hl`), the body obligation at every point (`hbody`), proof
    data whose arrays are read off `V` (`hA`), whose invariant starts and ends as the scoped buffers no window stages
    (`hΦ0`, `hΦN`), that owes nothing and holds its arrays whole, and a valuation `Vp` that the call leaves. -/
def reg (p : Fin 3) (hl : Pipeline.LaunchFacts (nD := nD) (τ := τ) cfgs p)
    (V Vp : (c : Dev nD) → Valuation τ sig (Elt F))
    (hbody : ∀ c, BodyObligation (pdats p c) (defs₀ (F := F)) Variants.none () Set.univ)
    (hA : ∀ c w, (pdats p c).A w = V c (Pipeline.arrRef (cfgs p).spec w))
    (hΦ0 : ∀ c, (Pipeline.scopedRest (Ix := Unit) (Name := ℕ) (U := UR sig nD τ) (Lvl := ℕ) (Val := Elt F) (cfgs p).spec c : sProp 𝕄) ⊢ (pdats p c).Φ 0)
    (hΦN : ∀ c, (pdats p c).Φ (Fin.last (cfgs p).N) ⊢ (Pipeline.scopedRest (Ix := Unit) (Name := ℕ) (U := UR sig nD τ) (Lvl := ℕ) (Val := Elt F) (cfgs p).spec c : sProp 𝕄))
    (howed : ∀ c t, (pdats p c).owed t = 0)
    (hrec : ∀ c t x, x ∈ (pdats p c).recorded t)
    (hq : ∀ c w, (pdats p c).q w = fullShare)
    (hVp : ∀ c w, Vp c (Pipeline.arrRef (cfgs p).spec w) = (pdats p c).arrAt w (cfgs p).N)
    (hVp_ne : ∀ c (b : Ref sig .tc), b ∉ Finset.univ.image (Pipeline.arrRef (cfgs p).spec) → Vp c b = V c b) :
    Pipeline.RegionSeg (pcfgs (F := F)) adm pdats () defs₀ Variants.none L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p fun c t => howed c t
  pre c := iprop(StableHlo.held (c : Thread nD τ) (Pipeline.ucRefs τ sig) (V c) ∗ rest c)
  post c := iprop(StableHlo.held (c : Thread nD τ) (Pipeline.ucRefs τ sig) (Vp c) ∗ rest c)
  X _ := BI.emp
  Y _ := BI.emp
  Z c := Pipeline.unscopedRest (Ix := Unit) (Name := ℕ) (U := UR sig nD τ) (Lvl := ℕ) (cfgs p).spec c fun b => V c b
  hentry c := by
    rw [Pipeline.ownSems0_none, ← Pipeline.unscopedBufs_held (Ix := Unit) (Name := ℕ) (U := UR sig nD τ) (Lvl := ℕ) c (V c)]
    have hsplit := Pipeline.arrays_of_unscopedBufs (p := p) (pcfgs (F := F)) adm pdats hl.win hl.arr_whole c
      ((pdats p c).share_full (hq c)) (fun b => V c b) (hA c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold rest Pipeline.Dat.owesAt Pipeline.owesWithin
      rw [howed]
      icases HO with ⟨%W, HO⟩; iexists W; isplitr; · ipureintro; exact fun x _ => Or.inl (hrec c _ x)
      iexact HO
    isplitr; · iempintro
    iassumption
  hin c := by
    iintro ⟨-, -, Hr⟩
    iapply (hΦ0 c); iexact Hr
  hout c := by
    rw [Pipeline.ownSems0_none]
    iintro Hr
    isplitr; · iempintro
    isplitr; · iempintro
    iapply (hΦN c); iexact Hr
  hexit c := by
    have hjoin := Pipeline.unscopedBufs_of_arrays (p := p) (pcfgs (F := F)) adm (Ix := Unit) (Name := ℕ) (U := UR sig nD τ) (Lvl := ℕ) hl.win hl.arr_whole c
      pdats ((pdats p c).share_full (hq c)) (fun b => V c b) (fun b => Vp c b) ((pdats p c).arrAt · (cfgs p).N)
      (fun w => (hVp c w).symm) (hVp_ne c)
    rw [← Pipeline.unscopedBufs_held (Ix := Unit) (Name := ℕ) (U := UR sig nD τ) (Lvl := ℕ) c (Vp c)]
    iintro ⟨Ha, HO, -, Hrest⟩
    imodintro
    isplitl [Ha Hrest]
    · iapply hjoin; isplitl [Ha] <;> iassumption
    unfold rest Pipeline.Dat.owesAt Pipeline.owesWithin
    rw [howed]
    icases HO with ⟨%W, -, HO⟩; iexists W; iexact HO

end Cert.KernelIdeal.Hand

end
-- ==== Proof.KernelIdeal.Prep.lean ====
/-
  The two preparing pallas_calls of the kernel program (with its constants named), each over its grid of points (batch, block of 512 rows):
  what the body leaves in every output block (`outX_xt`, `outY_y`, `outY_yt`, in terms of the block of codes and the block
  of scales), the body's triple, the proof data of the call entered from any contents `V` of the arrays, and the body
  obligation the pipeline library asks for.
-/
module

public import proofs.«01_k».proof.Proof.KernelIdeal.Region

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The bodies' accesses: each whole -/

abbrev rCodes : Rect S1x512x1152 := Rect.unit (s := S1x512x1152) ![0, 0, 0] S1x512x1152.size inb_S1x512x1152_S1x512x1152_0_0_0
abbrev rScales : Rect S1x512x36 := Rect.unit (s := S1x512x36) ![0, 0, 0] S1x512x36.size inb_S1x512x36_S1x512x36_0_0_0
abbrev rT : Rect S1x1152x512 := Rect.unit (s := S1x1152x512) ![0, 0, 0] S1x1152x512.size inb_S1x1152x512_S1x1152x512_0_0_0

/-- One store of the whole block covers it. -/
theorem cover_rows (p0 : Vec F S1x512x1152 .bf16) (y : S1x512x1152.Idx) :
    ∃ pc ∈ ([⟨rCodes, p0⟩] : List (View.Piece (Elt F) S1x512x1152 .bf16)), y ∈ pc.1.set :=
  View.cover_of_tiled [⟨rCodes, p0⟩] S1x512x1152.size (by rfl) y
theorem cover_t (p0 : Vec F S1x1152x512 .bf16) (y : S1x1152x512.Idx) :
    ∃ pc ∈ ([⟨rT, p0⟩] : List (View.Piece (Elt F) S1x1152x512 .bf16)), y ∈ pc.1.set :=
  View.cover_of_tiled [⟨rT, p0⟩] S1x1152x512.size (by rfl) y

/-- The transposed block of x that `prep_x` leaves, from the blocks of codes and scales. -/
def outX_xt (x0 : Vec F S1x512x1152 .fp8e4m3) (x1 : Vec F S1x512x36 .f32) : Vec F S1x1152x512 .bf16 :=
  View.canon [⟨rT, k0_pay1 (k0_pay2 (View.ld x0 rCodes) (View.ld x1 rScales))⟩]
/-- The block of y that `prep_y` leaves, -/
def outY_y (x0 : Vec F S1x512x1152 .fp8e4m3) (x1 : Vec F S1x512x36 .f32) : Vec F S1x512x1152 .bf16 :=
  View.canon [⟨rCodes, k1_pay1 (k1_pay3 (View.ld x0 rCodes) (View.ld x1 rScales))⟩]
/-- and the same block transposed. -/
def outY_yt (x0 : Vec F S1x512x1152 .fp8e4m3) (x1 : Vec F S1x512x36 .f32) : Vec F S1x1152x512 .bf16 :=
  View.canon [⟨rT, k1_pay2 (k1_pay3 (View.ld x0 rCodes) (View.ld x1 rScales))⟩]

namespace R0

/-! ## Pipeline 0 -/

set_option maxHeartbeats 1000000 in
/-- The body on whole staging memrefs, the inputs' at contents `x0`, `x1` and the outputs' at anything, runs to the
    continuation holding the inputs' as they were and each output's at its function of the inputs'. -/
theorem sound_kernel (c : Dev nD) (E : Set ℕ) (i : grid0.Coords) (arg2 : Memref sig .tc .vmem S1x512x1152 .fp8e4m3) (harg2 : arg2.IsWhole) (arg3 : Memref sig .tc .vmem S1x512x36 .f32) (harg3 : arg3.IsWhole) (arg4 : Memref sig .tc .vmem S1x1152x512 .bf16) (harg4 : arg4.IsWhole)
    (x0 : Vec F S1x512x1152 .fp8e4m3) (x1 : Vec F S1x512x36 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outX_xt x0 x1)) -∗ K ⟨⟩))
      ⊢ wp frame (wpE (defs₀ (F := F)) Variants.none c none) E (cc0_prep_x i arg2 harg2 arg3 harg3 arg4 harg4) K := by
  simp only [cc0_prep_x_eq_skeleton]; unfold cc0_prep_x_skel
  simp only [k0_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover_t _)).trans ?_
  rfl

variable (V : (c : Dev nD) → Valuation τ sig (Elt F))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as the call finds them; after the body each input's buffer at its block and each
    output's at its function of the input blocks; the invariant the scoped buffers no window stages; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outX_xt (iblk V c 0 t) (iblk V c 1 t)
  Φ _ := Pipeline.scopedRest spec0 c
  q _ := fullShare
  owed _ := 0

theorem A_eq (c : Dev nD) (w : Fin cfg0.W) : (dat V c).A w = V c (Pipeline.arrRef spec0 w) := by
  dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = outX_xt (iblk V c 0 t) (iblk V c 1 t) := by dsimp only [dat]

/-- Each input's current staging buffer holds its block at every point. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so `sound_kernel` applies; the invariant and the
    core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).Φ t.succ = (dat V c).Φ t.castSucc from rfl,
    show (dat V c).owesAt () t.succ = (dat V c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end R0

namespace R1

/-! ## Pipeline 1 -/

set_option maxHeartbeats 1000000 in
/-- The body on whole staging memrefs, the inputs' at contents `x0`, `x1` and the outputs' at anything, runs to the
    continuation holding the inputs' as they were and each output's at its function of the inputs'. -/
theorem sound_kernel (c : Dev nD) (E : Set ℕ) (i : grid1.Coords) (arg2 : Memref sig .tc .vmem S1x512x1152 .fp8e4m3) (harg2 : arg2.IsWhole) (arg3 : Memref sig .tc .vmem S1x512x36 .f32) (harg3 : arg3.IsWhole) (arg4 : Memref sig .tc .vmem S1x512x1152 .bf16) (harg4 : arg4.IsWhole) (arg5 : Memref sig .tc .vmem S1x1152x512 .bf16) (harg5 : arg5.IsWhole)
    (x0 : Vec F S1x512x1152 .fp8e4m3) (x1 : Vec F S1x512x36 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (outY_y x0 x1) ∗ owns (c : Thread nD τ) arg5 fullShare (outY_yt x0 x1)) -∗ K ⟨⟩))
      ⊢ wp frame (wpE (defs₀ (F := F)) Variants.none c none) E (cc1_prep_y i arg2 harg2 arg3 harg3 arg4 harg4 arg5 harg5) K := by
  simp only [cc1_prep_y_eq_skeleton]; unfold cc1_prep_y_skel
  simp only [k1_part1_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover_rows _)).trans ?_
    rfl
  iexists _; isplitr
  swap; · iexact H3
  ipureintro
  refine (View.read_writes_eq_canon _ _ _ (cover_t _)).trans ?_
  rfl

variable (V : (c : Dev nD) → Valuation τ sig (Elt F))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: the arrays as the call finds them; after the body each input's buffer at its block and each
    output's at its function of the input blocks; the invariant the scoped buffers no window stages; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outY_y (iblk V c 0 t) (iblk V c 1 t)
    | ⟨3, _⟩ => outY_yt (iblk V c 0 t) (iblk V c 1 t)
  Φ _ := Pipeline.scopedRest spec1 c
  q _ := fullShare
  owed _ := 0

theorem A_eq (c : Dev nD) (w : Fin cfg1.W) : (dat V c).A w = V c (Pipeline.arrRef spec1 w) := by
  dsimp only [dat]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = outY_y (iblk V c 0 t) (iblk V c 1 t) := by dsimp only [dat]
theorem after3 (c : Dev nD) (t : Fin cfg1.N) : (dat V c).after 3 t = outY_yt (iblk V c 0 t) (iblk V c 1 t) := by dsimp only [dat]

/-- Each input's current staging buffer holds its block at every point. -/
theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' memrefs hold their blocks, so `sound_kernel` applies; the invariant and the
    core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid1.coords t) _ _ _ _ _ _ _ _ (iblk V c 0 t) (iblk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end R1

end Cert.KernelIdeal.Hand

end
-- ==== Proof.KernelIdeal.MainVals.lean ====
/-
  What one grid point of the main pallas_call computes (program with its constants named), as functions of the blocks it is given: the
  scalars `P`, the transposed block of x `X`, the block of y `Y` and its transpose `YT`, and the accumulators as found.
-/
module

public import proofs.«01_k».proof.Proof.KernelIdeal.Prep

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The accesses -/

abbrev rX : Rect S1x1152x1024 := Rect.unit (s := S1x1152x1024) ![0, 0, 0] S1x1152x1024.size inb_S1x1152x1024_S1x1152x1024_0_0_0
abbrev rY0 : Rect S1x512x1152 := Rect.unit (s := S1x512x1152) ![0, 0, 0] S1x256x1152.size inb_S1x512x1152_S1x256x1152_0_0_0
abbrev rY1 : Rect S1x512x1152 := Rect.unit (s := S1x512x1152) ![0, 256, 0] S1x256x1152.size inb_S1x512x1152_S1x256x1152_0_256_0
abbrev rG0 : Rect S512x1024 := Rect.unit (s := S512x1024) ![0, 0] S256x1024.size inb_S512x1024_S256x1024_0_0
abbrev rG1 : Rect S512x1024 := Rect.unit (s := S512x1024) ![256, 0] S256x1024.size inb_S512x1024_S256x1024_256_0
abbrev rG : Rect S512x1024 := Rect.unit (s := S512x1024) ![0, 0] S512x1024.size inb_S512x1024_S512x1024_0_0
abbrev rDx : Rect S1152x1024 := Rect.unit (s := S1152x1024) ![0, 0] S1152x1024.size inb_S1152x1024_S1152x1024_0_0
abbrev rS0 : Rect S3x8x1024 := Rect.unit (s := S3x8x1024) ![0, 0, 0] S1x8x1024.size inb_S3x8x1024_S1x8x1024_0_0_0
abbrev rS1 : Rect S3x8x1024 := Rect.unit (s := S3x8x1024) ![1, 0, 0] S1x8x1024.size inb_S3x8x1024_S1x8x1024_1_0_0
abbrev rS2 : Rect S3x8x1024 := Rect.unit (s := S3x8x1024) ![2, 0, 0] S1x8x1024.size inb_S3x8x1024_S1x8x1024_2_0_0
/-- Slice `j` of the accumulator of the transposed gradient of y. -/
abbrev rDy (j : Fin 16) : Rect S16x1152x512 := Rect.unit (s := S16x1152x512) ![j.val, 0, 0] S1x1152x512.size
  (by intro a; fin_cases a <;> simp [S16x1152x512, S1x1152x512] <;> omega)

/-! ## One point -/

/-- Scalar `k` of the parameters: the temperature, the bias, the reciprocal of the sequence's length. -/
def par0 (P : Vec F S3 .f32) : Elt F .f32 := View.ld P (Rect.unit ![0] S1.size inb_S3_S1_0) (Shape.Idx.first (numel1_S1.symm ▸ Nat.one_pos))
def par1 (P : Vec F S3 .f32) : Elt F .f32 := View.ld P (Rect.unit ![1] S1.size inb_S3_S1_1) (Shape.Idx.first (numel1_S1.symm ▸ Nat.one_pos))
def par2 (P : Vec F S3 .f32) : Elt F .f32 := View.ld P (Rect.unit ![2] S1.size inb_S3_S1_2) (Shape.Idx.first (numel1_S1.symm ▸ Nat.one_pos))

variable (i : grid2.Coords) (P : Vec F S3 .f32) (X : Vec F S1x1152x1024 .bf16) (Y : Vec F S1x512x1152 .bf16) (YT : Vec F S1x1152x512 .bf16)

/-- The first 256 rows of the block: the gradient of the logits, and the three row sums' steps. -/
def gA : FVec F S256x1024 .bf16 :=
  k2_pay18 (k2_pay12 (par0 P) (par1 P) (View.ld Y rY0) X) (k2_pay13 i) (k2_pay14 (par0 P) (par1 P) (View.ld Y rY0) X) (k2_pay16 (par0 P) (par1 P) (View.ld Y rY0) X)
def s0A (a : Vec F S1x8x1024 .f32) : FVec F S1x8x1024 .f32 :=
  k2_pay19 (k2_pay12 (par0 P) (par1 P) (View.ld Y rY0) X) (k2_pay13 i) (k2_pay14 (par0 P) (par1 P) (View.ld Y rY0) X) (k2_pay15 (par0 P) (par1 P) (View.ld Y rY0) X) a
def s1A (a : Vec F S1x8x1024 .f32) : FVec F S1x8x1024 .f32 :=
  k2_pay22 (k2_pay20 a) (k2_pay21 (k2_pay11 (par0 P) (View.ld Y rY0) X) (k2_pay12 (par0 P) (par1 P) (View.ld Y rY0) X) (k2_pay13 i) (k2_pay14 (par0 P) (par1 P) (View.ld Y rY0) X) (k2_pay16 (par0 P) (par1 P) (View.ld Y rY0) X))
def s2A (a : Vec F S1x8x1024 .f32) : FVec F S1x8x1024 .f32 :=
  k2_pay23 (k2_pay17 (k2_pay12 (par0 P) (par1 P) (View.ld Y rY0) X) (k2_pay13 i) (k2_pay14 (par0 P) (par1 P) (View.ld Y rY0) X) (k2_pay16 (par0 P) (par1 P) (View.ld Y rY0) X)) a

/-- The mask of the diagonal in the last 256 rows. -/
def diagB : IVec S256x1024 1 :=
  k2_pay26 (BitVec.ofNat 32 (i 1).val) (BitVec.ofNat 32 (i 2).val) (iota .tc S256x1024 32 [0] iota_S256x1024_d0_w32) (iota .tc S256x1024 32 [1] iota_S256x1024_d1_w32)
/-- The last 256 rows of the block: the same. -/
def gB : FVec F S256x1024 .bf16 :=
  k2_pay30 (k2_pay25 (par0 P) (par1 P) (View.ld Y rY1) X) (diagB i) (k2_pay27 (par0 P) (par1 P) (View.ld Y rY1) X) (k2_pay28 (par0 P) (par1 P) (View.ld Y rY1) X) (Scalar.ofBits .f32 0x3F800000#32)
def s0B (a : Vec F S1x8x1024 .f32) : FVec F S1x8x1024 .f32 :=
  k2_pay31 (k2_pay25 (par0 P) (par1 P) (View.ld Y rY1) X) (diagB i) (k2_pay27 (par0 P) (par1 P) (View.ld Y rY1) X) (k2_pay28 (par0 P) (par1 P) (View.ld Y rY1) X) a
def s1B (a : Vec F S1x8x1024 .f32) : FVec F S1x8x1024 .f32 :=
  k2_pay34 (k2_pay32 a) (k2_pay33 (k2_pay24 (par0 P) (View.ld Y rY1) X) (k2_pay25 (par0 P) (par1 P) (View.ld Y rY1) X) (diagB i) (k2_pay27 (par0 P) (par1 P) (View.ld Y rY1) X) (k2_pay28 (par0 P) (par1 P) (View.ld Y rY1) X) (Scalar.ofBits .f32 0x3F800000#32))
def s2B (a : Vec F S1x8x1024 .f32) : FVec F S1x8x1024 .f32 :=
  k2_pay35 (k2_pay29 (k2_pay25 (par0 P) (par1 P) (View.ld Y rY1) X) (diagB i) (k2_pay27 (par0 P) (par1 P) (View.ld Y rY1) X) (k2_pay28 (par0 P) (par1 P) (View.ld Y rY1) X) (Scalar.ofBits .f32 0x3F800000#32)) a

/-- The gradient of the logits at this point, both halves. -/
def gM : Vec F S512x1024 .bf16 := View.canon [⟨rG1, gB i P X Y⟩, ⟨rG0, gA i P X Y⟩]
/-- The accumulators' steps. -/
def dxStep (d : Vec F S1152x1024 .f32) : FVec F S1152x1024 .f32 := k2_pay36 (gM i P X Y) d YT
def dyStep (d : Vec F S1x1152x512 .f32) : FVec F S1x1152x512 .f32 := k2_pay1 (k2_pay37 (gM i P X Y) d X)

/-- The condition of the first reset: the block of y is the first. -/
def cond1 (i : grid2.Coords) : BitVec 1 :=
  Scalar.cmpi .ne (Scalar.extui (Scalar.cmpi .eq (BitVec.ofNat 32 (i 2).val) 0#32) : BitVec 32) 0#32

/-- The accumulators after this point, from those found. -/
def dxNext (d : Vec F S1152x1024 .f32) : Vec F S1152x1024 .f32 := dxStep i P X Y YT (if cond1 i = 1#1 then k2_pay8 else d)
def dyNext (d : Vec F S1x1152x512 .f32) : Vec F S1x1152x512 .f32 := dyStep i P X Y (if k2_cond2 i = 1#1 then k2_pay10 else d)
def s0Next (a : Vec F S1x8x1024 .f32) : Vec F S1x8x1024 .f32 := s0B i P X Y (s0A i P X Y (if cond1 i = 1#1 then View.ld k2_pay9 rS0 else a))
def s1Next (a : Vec F S1x8x1024 .f32) : Vec F S1x8x1024 .f32 := s1B i P X Y (s1A i P X Y (if cond1 i = 1#1 then View.ld k2_pay9 rS1 else a))
def s2Next (a : Vec F S1x8x1024 .f32) : Vec F S1x8x1024 .f32 := s2B i P X Y (s2A i P X Y (if cond1 i = 1#1 then View.ld k2_pay9 rS2 else a))

/-- What the last point of a row of blocks leaves in the output blocks, from the accumulators after it. -/
def outDx (d : Vec F S1152x1024 .f32) : Vec F S1x1024x1152 .bf16 := k2_pay4 (par0 P) (par2 P) d
def outDy (d : Vec F S1x1152x512 .f32) : Vec F S1x512x1152 .bf16 := k2_pay3 (par0 P) (par2 P) d
def outLoss (a : Vec F S1x8x1024 .f32) : Vec F S1x1x1024 .f32 := k2_pay5 a
def outDt (a : Vec F S1x8x1024 .f32) : Vec F S1x1x1024 .f32 := k2_pay6 (par2 P) a
def outDb (a : Vec F S1x8x1024 .f32) : Vec F S1x1x1024 .f32 := k2_pay2 (k2_pay7 (par2 P) a)

/-! ## Reading back through stores -/

section Read
variable {sp : Space} {s : Shape} {e : EltTy} (v : View sig .tc sp s e) (f : v.ty.Contents (Elt F))

/-- A rectangle read after a store through it: the payload; -/
theorem ld_hit (r : Rect s) (w : r.shape.Idx → Elt F e) (L : List (View.Piece (Elt F) s e)) :
    View.ld (v.read (Elt F) (v.writes (Elt F) f (⟨r, w⟩ :: L))) r = w :=
  funext fun x => View.read_writes_cons_emb v f r w L x
/-- after a store through one disjoint from it: as before the store. -/
theorem ld_miss (r r' : Rect s) (w : r'.shape.Idx → Elt F e) (L : List (View.Piece (Elt F) s e)) (h : Disjoint r'.set r.set) :
    View.ld (v.read (Elt F) (v.writes (Elt F) f (⟨r', w⟩ :: L))) r = View.ld (v.read (Elt F) (v.writes (Elt F) f L)) r :=
  funext fun x => View.read_writes_cons_miss v f _ L _ (Finset.disjoint_right.mp h (r.idx_mem x))
/-- The same of a load of stored pieces. -/
theorem cov_hit (r : Rect s) (w : r.shape.Idx → Elt F e) (L : List (View.Piece (Elt F) s e)) :
    v.readCov (⟨r, w⟩ :: L) r.toLoadRect = w := View.readCov_cons_toLoadRect v r w L
theorem cov_miss (r r' : Rect s) (w : r'.shape.Idx → Elt F e) (L : List (View.Piece (Elt F) s e)) (h : Disjoint r'.set r.set) :
    v.readCov (⟨r', w⟩ :: L) r.toLoadRect = v.readCov L r.toLoadRect := by
  rw [View.readCov_eq_canon', View.readCov_eq_canon']
  exact funext fun x => View.canon_cons_of_not_mem ⟨r', w⟩ L (Finset.disjoint_right.mp h (r.idx_mem x))
end Read

/-- Rectangles apart along the first axis are disjoint. -/
theorem disj_axis0 {d : Fin 3 → ℕ} {off off' size size' : Fin 3 → ℕ} (inb : ∀ a, off a + size a ≤ d a) (inb' : ∀ a, off' a + size' a ≤ d a)
    (h : off 0 + size 0 ≤ off' 0 ∨ off' 0 + size' 0 ≤ off 0) :
    Disjoint (Rect.unit (s := ⟨3, d⟩) off size inb).set (Rect.unit (s := ⟨3, d⟩) off' size' inb').set := by
  rw [Finset.disjoint_left]
  intro y hy hy'
  have h1 := (Rect.mem_set_unit.mp hy) 0
  have h2 := (Rect.mem_set_unit.mp hy') 0
  omega

theorem rS01 : Disjoint rS0.set rS1.set := disj_axis0 _ _ (by decide)
theorem rS02 : Disjoint rS0.set rS2.set := disj_axis0 _ _ (by decide)
theorem rS12 : Disjoint rS1.set rS2.set := disj_axis0 _ _ (by decide)
theorem rDy_disj {j j' : Fin 16} (h : j ≠ j') : Disjoint (rDy j).set (rDy j').set :=
  disj_axis0 _ _ (by
    have : j.val ≠ j'.val := fun e => h (Fin.ext e)
    show j.val + 1 ≤ j'.val ∨ j'.val + 1 ≤ j.val
    omega)

theorem off2_eq (i : grid2.Coords) : k2_off2 i = ![(i 2).val, 0, 0] := by
  have h : (i 2).val < 16 := (i 2).isLt
  have : (Scalar.indexCast (BitVec.ofNat 32 (i 2).val)).toNat = (i 2).val := by
    simp [Scalar.indexCast]; omega
  show ![(Scalar.indexCast (BitVec.ofNat 32 (i 2).val)).toNat, 0, 0] = _
  rw [this]
theorem off2_rect (i : grid2.Coords) (inb) : (Rect.unit (s := S16x1152x512) (k2_off2 i) S1x1152x512.size inb) = rDy (i 2) := by
  revert inb; rw [off2_eq]; intro inb; rfl

end Cert.KernelIdeal.Hand

end
-- ==== Proof.KernelIdeal.MainBody.lean ====
/-
  The main pallas_call's body at one grid point (program with its constants named): from its windows' buffers and its four scratch buffers at
  given contents it runs to its end leaving every buffer at the functions of MainVals. `body_head` is the body's first
  part (the resets), `sound_main` the whole body.
-/
module

public import proofs.«01_k».proof.Proof.KernelIdeal.MainVals
public import Idealize.ShloMosaic.Lib.VecWindow
public import Idealize.ShloMosaic.Lib.Pipeline.ValueKit.Basic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the resets leave of the transposed gradient's accumulator: slice `i 2` at zero if reset, every other slice as it was. -/
def HeadD (i : grid2.Coords) (D D' : Vec F S16x1152x512 .f32) : Prop :=
  View.ld D' (rDy (i 2)) = (if k2_cond2 i = 1#1 then k2_pay10 else View.ld D (rDy (i 2))) ∧ ∀ j : Fin 16, j ≠ i 2 → View.ld D' (rDy j) = View.ld D (rDy j)

set_option maxHeartbeats 4000000 in
/-- The first part: the resets, and the values the later parts take. -/
theorem body_head (c : Dev nD) (E : Set ℕ) (i : grid2.Coords) (arg3 : Memref sig .tc .smem S3 .f32) (harg3 : arg3.IsWhole)
    (arg4 : Memref sig .tc .vmem S1x1152x1024 .bf16) (harg4 : arg4.IsWhole)
    (arg5 : Memref sig .tc .vmem S1x512x1152 .bf16) (harg5 : arg5.IsWhole)
    (arg6 : Memref sig .tc .vmem S1x1152x512 .bf16) (harg6 : arg6.IsWhole)
    (arg7 : Memref sig .tc .vmem S1x1x1024 .f32) (harg7 : arg7.IsWhole)
    (arg8 : Memref sig .tc .vmem S1x1024x1152 .bf16) (harg8 : arg8.IsWhole)
    (arg9 : Memref sig .tc .vmem S1x512x1152 .bf16) (harg9 : arg9.IsWhole)
    (arg10 : Memref sig .tc .vmem S1x1x1024 .f32) (harg10 : arg10.IsWhole)
    (arg11 : Memref sig .tc .vmem S1x1x1024 .f32) (harg11 : arg11.IsWhole)
    (arg12 : Memref sig .tc .vmem S16x1152x512 .f32) (harg12 : arg12.IsWhole)
    (arg13 : Memref sig .tc .vmem S1152x1024 .f32) (harg13 : arg13.IsWhole)
    (arg14 : Memref sig .tc .vmem S512x1024 .bf16) (harg14 : arg14.IsWhole)
    (arg15 : Memref sig .tc .vmem S3x8x1024 .f32) (harg15 : arg15.IsWhole)
    (P : Vec F S3 .f32) (X : Vec F S1x1152x1024 .bf16) (Y : Vec F S1x512x1152 .bf16) (D : Vec F S16x1152x512 .f32) (d : Vec F S1152x1024 .f32) (S : Vec F S3x8x1024 .f32)
    (K : _ → sProp 𝕄) :
    iprop(owns (c : Thread nD τ) arg3 fullShare P ∗ owns (c : Thread nD τ) arg4 fullShare X ∗ owns (c : Thread nD τ) arg5 fullShare Y ∗ owns (c : Thread nD τ) arg12 fullShare D ∗ owns (c : Thread nD τ) arg13 fullShare d ∗ owns (c : Thread nD τ) arg15 fullShare S
      ∗ (∀ D' v, ⌜HeadD i D D'⌝ -∗ ⌜v = ⟨BitVec.ofNat 32 (i 1).val, BitVec.ofNat 32 (i 2).val, par0 P, par1 P, par2 P, iota .tc S256x1024 32 [0] iota_S256x1024_d0_w32, iota .tc S256x1024 32 [1] iota_S256x1024_d1_w32,
            k2_pay11 (par0 P) (View.ld Y rY0) X, k2_pay12 (par0 P) (par1 P) (View.ld Y rY0) X, k2_pay13 i, k2_pay14 (par0 P) (par1 P) (View.ld Y rY0) X, k2_pay15 (par0 P) (par1 P) (View.ld Y rY0) X, k2_pay16 (par0 P) (par1 P) (View.ld Y rY0) X⟩⌝ -∗ owns (c : Thread nD τ) arg3 fullShare P -∗ owns (c : Thread nD τ) arg4 fullShare X -∗ owns (c : Thread nD τ) arg5 fullShare Y -∗ owns (c : Thread nD τ) arg12 fullShare D' -∗ owns (c : Thread nD τ) arg13 fullShare (if cond1 i = 1#1 then k2_pay8 else d) -∗ owns (c : Thread nD τ) arg15 fullShare (if cond1 i = 1#1 then k2_pay9 else S)
        -∗ K v))
      ⊢ wp frame (wpE (defs₀ (F := F)) Variants.none c none) E (k2_part2 i arg3 harg3 arg4 harg4 arg5 harg5 arg6 harg6 arg7 harg7 arg8 harg8 arg9 harg9 arg10 harg10 arg11 harg11 arg12 harg12 arg13 harg13 arg14 harg14 arg15 harg15) K := by
  simp only [k2_part2_eq_skeleton]; unfold k2_part2_skel
  unfold owns
  iintro ⟨⟨%f3, %hf3, H3⟩, ⟨%f4, %hf4, H4⟩, ⟨%f5, %hf5, H5⟩, ⟨%f12, %hf12, H12⟩, ⟨%f13, %hf13, H13⟩, ⟨%f15, %hf15, H15⟩, Hk⟩
  subst hf3 hf4 hf5 hf12 hf13 hf15
  have eX : View.ld (arg4.view.read (Elt F) f4) rX = arg4.view.read (Elt F) f4 := View.ld_unit_lit _ _ (by decide)
  have hD2 : ∀ (w : FVec F S1x1152x512 .f32) (h2 : k2_cond2 i = 1#1), HeadD (F := F) i (arg12.view.read (Elt F) f12)
      (arg12.view.read (Elt F) (arg12.view.writes (Elt F) f12 [⟨Rect.unit (s := S16x1152x512) (k2_off1 i) S1x1152x512.size (k2_off1_inb i h2), k2_pay10⟩])) := by
    intro w h2
    have e : (⟨Rect.unit (s := S16x1152x512) (k2_off1 i) S1x1152x512.size (k2_off1_inb i h2), k2_pay10⟩ : View.Piece (Elt F) S16x1152x512 .f32) = ⟨rDy (i 2), k2_pay10⟩ := by
      have := off2_eq i
      generalize k2_off1_inb i h2 = inb
      revert inb
      rw [show k2_off1 i = k2_off2 i from rfl, this]
      intro inb; rfl
    rw [e]
    refine ⟨?_, fun j hj => ?_⟩
    · rw [if_pos h2]; exact ld_hit _ _ _ _ _
    · exact ld_miss _ _ _ _ _ _ (rDy_disj (Ne.symm hj))
  have hD1 : ¬ k2_cond2 i = 1#1 → HeadD (F := F) i (arg12.view.read (Elt F) f12) (arg12.view.read (Elt F) f12) :=
    fun h2 => ⟨(if_neg h2).symm, fun _ _ => rfl⟩
  have r13 : arg13.view.read (Elt F) (arg13.view.writes (Elt F) f13 [⟨rDx, k2_pay8⟩]) = k2_pay8 := View.read_writes_full _ _ _ _ _
  have r15 : arg15.view.read (Elt F) (arg15.view.writes (Elt F) f15 [⟨Rect.unit (s := S3x8x1024) ![0, 0, 0] S3x8x1024.size inb_S3x8x1024_S3x8x1024_0_0_0, k2_pay9⟩]) = k2_pay9 := View.read_writes_full _ _ _ _ _
  by_cases h1 : cond1 i = 1#1
  · rw [if_pos h1, if_pos h1]
    unfold cond1 at h1
    by_cases h2 : k2_cond2 i = 1#1
    · sl_exec
      sl_step
      iapply Hk $$ %_ %_ %(hD2 k2_pay10 h2) %(by rfl) [H3] [H4] [H5] [H12] [H13] [H15]
      · iexists f3; isplitr; · ipureintro; rfl
        iexact H3
      · iexists f4; isplitr; · ipureintro; rfl
        iexact H4
      · iexists f5; isplitr; · ipureintro; rfl
        iexact H5
      · iexists _; isplitr; swap; · iexact H12
        ipureintro; rfl
      · iexists _; isplitr; swap; · iexact H13
        ipureintro; exact r13
      · iexists _; isplitr; swap; · iexact H15
        ipureintro; exact r15
    · sl_exec
      sl_step
      iapply Hk $$ %_ %_ %(hD1 h2) %(by rfl) [H3] [H4] [H5] [H12] [H13] [H15]
      · iexists f3; isplitr; · ipureintro; rfl
        iexact H3
      · iexists f4; isplitr; · ipureintro; rfl
        iexact H4
      · iexists f5; isplitr; · ipureintro; rfl
        iexact H5
      · iexists _; isplitr; swap; · iexact H12
        ipureintro; rfl
      · iexists _; isplitr; swap; · iexact H13
        ipureintro; exact r13
      · iexists _; isplitr; swap; · iexact H15
        ipureintro; exact r15
  · rw [if_neg h1, if_neg h1]
    unfold cond1 at h1
    by_cases h2 : k2_cond2 i = 1#1
    · sl_exec
      sl_step
      iapply Hk $$ %_ %_ %(hD2 k2_pay10 h2) %(by rfl) [H3] [H4] [H5] [H12] [H13] [H15]
      · iexists f3; isplitr; · ipureintro; rfl
        iexact H3
      · iexists f4; isplitr; · ipureintro; rfl
        iexact H4
      · iexists f5; isplitr; · ipureintro; rfl
        iexact H5
      · iexists _; isplitr; swap; · iexact H12
        ipureintro; rfl
      · iexists _; isplitr; swap; · iexact H13
        ipureintro; rfl
      · iexists _; isplitr; swap; · iexact H15
        ipureintro; rfl
    · sl_exec
      sl_step
      iapply Hk $$ %_ %_ %(hD1 h2) %(by rfl) [H3] [H4] [H5] [H12] [H13] [H15]
      · iexists f3; isplitr; · ipureintro; rfl
        iexact H3
      · iexists f4; isplitr; · ipureintro; rfl
        iexact H4
      · iexists f5; isplitr; · ipureintro; rfl
        iexact H5
      · iexists _; isplitr; swap; · iexact H12
        ipureintro; rfl
      · iexists _; isplitr; swap; · iexact H13
        ipureintro; rfl
      · iexists _; isplitr; swap; · iexact H15
        ipureintro; rfl

/-- What the point leaves of the transposed gradient's accumulator: slice `i 2` its next, every other slice as it was; -/
def NextD (i : grid2.Coords) (P : Vec F S3 .f32) (X : Vec F S1x1152x1024 .bf16) (Y : Vec F S1x512x1152 .bf16) (D D' : Vec F S16x1152x512 .f32) : Prop :=
  View.ld D' (rDy (i 2)) = dyNext i P X Y (View.ld D (rDy (i 2))) ∧ ∀ j : Fin 16, j ≠ i 2 → View.ld D' (rDy j) = View.ld D (rDy j)
/-- and of the three sums' accumulators: the next of each. -/
def NextS (i : grid2.Coords) (P : Vec F S3 .f32) (X : Vec F S1x1152x1024 .bf16) (Y : Vec F S1x512x1152 .bf16) (S S' : Vec F S3x8x1024 .f32) : Prop :=
  View.ld S' rS0 = s0Next i P X Y (View.ld S rS0) ∧ View.ld S' rS1 = s1Next i P X Y (View.ld S rS1) ∧ View.ld S' rS2 = s2Next i P X Y (View.ld S rS2)

set_option maxHeartbeats 8000000 in
/-- The whole body. -/
theorem sound_main (c : Dev nD) (E : Set ℕ) (i : grid2.Coords) (arg3 : Memref sig .tc .smem S3 .f32) (harg3 : arg3.IsWhole)
    (arg4 : Memref sig .tc .vmem S1x1152x1024 .bf16) (harg4 : arg4.IsWhole)
    (arg5 : Memref sig .tc .vmem S1x512x1152 .bf16) (harg5 : arg5.IsWhole)
    (arg6 : Memref sig .tc .vmem S1x1152x512 .bf16) (harg6 : arg6.IsWhole)
    (arg7 : Memref sig .tc .vmem S1x1x1024 .f32) (harg7 : arg7.IsWhole)
    (arg8 : Memref sig .tc .vmem S1x1024x1152 .bf16) (harg8 : arg8.IsWhole)
    (arg9 : Memref sig .tc .vmem S1x512x1152 .bf16) (harg9 : arg9.IsWhole)
    (arg10 : Memref sig .tc .vmem S1x1x1024 .f32) (harg10 : arg10.IsWhole)
    (arg11 : Memref sig .tc .vmem S1x1x1024 .f32) (harg11 : arg11.IsWhole)
    (arg12 : Memref sig .tc .vmem S16x1152x512 .f32) (harg12 : arg12.IsWhole)
    (arg13 : Memref sig .tc .vmem S1152x1024 .f32) (harg13 : arg13.IsWhole)
    (arg14 : Memref sig .tc .vmem S512x1024 .bf16) (harg14 : arg14.IsWhole)
    (arg15 : Memref sig .tc .vmem S3x8x1024 .f32) (harg15 : arg15.IsWhole)
    (P : Vec F S3 .f32) (X : Vec F S1x1152x1024 .bf16) (Y : Vec F S1x512x1152 .bf16) (YT : Vec F S1x1152x512 .bf16) (X7 : Vec F S1x1x1024 .f32) (X8 : Vec F S1x1024x1152 .bf16) (X9 : Vec F S1x512x1152 .bf16) (X10 : Vec F S1x1x1024 .f32) (X11 : Vec F S1x1x1024 .f32) (D : Vec F S16x1152x512 .f32) (d : Vec F S1152x1024 .f32) (G : Vec F S512x1024 .bf16) (S : Vec F S3x8x1024 .f32) (K : _ → sProp 𝕄) :
    iprop(owns (c : Thread nD τ) arg3 fullShare P ∗ owns (c : Thread nD τ) arg4 fullShare X ∗ owns (c : Thread nD τ) arg5 fullShare Y ∗ owns (c : Thread nD τ) arg6 fullShare YT ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare D ∗ owns (c : Thread nD τ) arg13 fullShare d ∗ owns (c : Thread nD τ) arg14 fullShare G ∗ owns (c : Thread nD τ) arg15 fullShare S
      ∗ (∀ D' G' S', ⌜NextD i P X Y D D'⌝ -∗ ⌜NextS i P X Y S S'⌝ -∗ owns (c : Thread nD τ) arg3 fullShare P -∗ owns (c : Thread nD τ) arg4 fullShare X -∗ owns (c : Thread nD τ) arg5 fullShare Y -∗ owns (c : Thread nD τ) arg6 fullShare YT
        -∗ owns (c : Thread nD τ) arg7 fullShare (if k2_cond3 i = 1#1 then outLoss (s0Next i P X Y (View.ld S rS0)) else X7)
        -∗ owns (c : Thread nD τ) arg8 fullShare (if k2_cond3 i = 1#1 then outDx P (dxNext i P X Y YT d) else X8)
        -∗ owns (c : Thread nD τ) arg9 fullShare (if k2_cond4 i = 1#1 then outDy P (dyNext i P X Y (View.ld D (rDy (i 2)))) else X9)
        -∗ owns (c : Thread nD τ) arg10 fullShare (if k2_cond3 i = 1#1 then outDt P (s1Next i P X Y (View.ld S rS1)) else X10)
        -∗ owns (c : Thread nD τ) arg11 fullShare (if k2_cond3 i = 1#1 then outDb P (s2Next i P X Y (View.ld S rS2)) else X11)
        -∗ owns (c : Thread nD τ) arg12 fullShare D' -∗ owns (c : Thread nD τ) arg13 fullShare (dxNext i P X Y YT d) -∗ owns (c : Thread nD τ) arg14 fullShare G' -∗ owns (c : Thread nD τ) arg15 fullShare S' -∗ K ⟨⟩))
      ⊢ wp frame (wpE (defs₀ (F := F)) Variants.none c none) E (cc2_siglip i arg3 harg3 arg4 harg4 arg5 harg5 arg6 harg6 arg7 harg7 arg8 harg8 arg9 harg9 arg10 harg10 arg11 harg11 arg12 harg12 arg13 harg13 arg14 harg14 arg15 harg15) K := by
  simp only [cc2_siglip_eq_skeleton]; unfold cc2_siglip_skel
  iintro ⟨H3, H4, H5, H6, H7, H8, H9, H10, H11, H12, H13, H14, H15, Hk⟩
  rw [wp_bind]
  iapply (body_head c E i arg3 harg3 arg4 harg4 arg5 harg5 arg6 harg6 arg7 harg7 arg8 harg8 arg9 harg9 arg10 harg10 arg11 harg11 arg12 harg12 arg13 harg13 arg14 harg14 arg15 harg15 P X Y D d S _)
  isplitl [H3]; · iexact H3
  isplitl [H4]; · iexact H4
  isplitl [H5]; · iexact H5
  isplitl [H12]; · iexact H12
  isplitl [H13]; · iexact H13
  isplitl [H15]; · iexact H15
  iintro %D1 %vv %hD1 %hvv H3 H4 H5 H12 H13 H15
  subst hvv
  generalize hd1 : (if cond1 i = 1#1 then k2_pay8 else d) = d1
  generalize hS1 : (if cond1 i = 1#1 then k2_pay9 else S) = S1
  simp only [k2_part1_eq_skeleton, k2_part3_eq_skeleton, k2_part4_eq_skeleton, k2_part5_eq_skeleton, k2_part6_eq_skeleton]
  unfold k2_part1_skel k2_part3_skel k2_part4_skel k2_part5_skel k2_part6_skel
  unfold owns
  icases H3 with ⟨%f3, %hf3, H3⟩
  icases H4 with ⟨%f4, %hf4, H4⟩
  icases H5 with ⟨%f5, %hf5, H5⟩
  icases H6 with ⟨%f6, %hf6, H6⟩
  icases H7 with ⟨%f7, %hf7, H7⟩
  icases H8 with ⟨%f8, %hf8, H8⟩
  icases H9 with ⟨%f9, %hf9, H9⟩
  icases H10 with ⟨%f10, %hf10, H10⟩
  icases H11 with ⟨%f11, %hf11, H11⟩
  icases H12 with ⟨%f12, %hf12, H12⟩
  icases H13 with ⟨%f13, %hf13, H13⟩
  icases H14 with ⟨%f14, %hf14, H14⟩
  icases H15 with ⟨%f15, %hf15, H15⟩
  have eX : View.ld X rX = X := View.ld_unit_lit _ _ (by decide)
  have eYT : View.ld YT (Rect.unit (s := S1x1152x512) ![0, 0, 0] S1x1152x512.size inb_S1x1152x512_S1x1152x512_0_0_0) = YT := View.ld_unit_lit _ _ (by decide)
  have ed1 : View.ld (Val := Elt F) (e' := .f32) d1 rDx = d1 := View.ld_unit_lit (Val := Elt F) (e := .f32) (S := S1152x1024) (off := ![0, 0]) inb_S1152x1024_S1152x1024_0_0 d1 (by decide)
  have e0 : s0B i P X Y (s0A i P X Y (View.ld S1 rS0)) = s0Next i P X Y (View.ld S rS0) := by
    rw [← hS1]; unfold s0Next; split <;> rfl
  have e1 : s1B i P X Y (s1A i P X Y (View.ld S1 rS1)) = s1Next i P X Y (View.ld S rS1) := by
    rw [← hS1]; unfold s1Next; split <;> rfl
  have e2 : s2B i P X Y (s2A i P X Y (View.ld S1 rS2)) = s2Next i P X Y (View.ld S rS2) := by
    rw [← hS1]; unfold s2Next; split <;> rfl
  have edx : dxStep i P X Y YT d1 = dxNext i P X Y YT d := by rw [← hd1]; rfl
  have edy : dyStep i P X Y (View.ld D1 (rDy (i 2))) = dyNext i P X Y (View.ld D (rDy (i 2))) := by
    rw [hD1.1]; rfl
  sl_exec
  have L14 : sound_main.sl.H14_2 c i arg4 arg5 P X Y f4 f5 = [⟨rG1, gB i P X Y⟩, ⟨rG0, gA i P X Y⟩] := by
    delta sound_main.sl.H14_2; simp only [View.readAt_eq_ld, hf4, hf5, eX]; rfl
  have v161 : sound_main.sl.v161 c i arg4 arg5 arg14 P X Y f4 f5 = gM i P X Y := by
    delta sound_main.sl.v161; rw [L14]; exact (View.readCov_eq_canon' _ _ _).trans (View.ld_unit_lit (S := S512x1024) (off := ![0, 0]) inb_S512x1024_S512x1024_0_0 (View.canon _) (by decide))
  have L13 : sound_main.sl.H13_1 c i arg4 arg5 arg6 arg13 arg14 P X Y f4 f5 f6 f13 = [⟨rDx, dxNext i P X Y YT d⟩] := by
    delta sound_main.sl.H13_1; rw [v161, View.readAt_eq_ld, View.readAt_eq_ld, hf13, hf6, eYT, ed1, ← edx]; rfl
  have L12 : sound_main.sl.H12_1 c i arg4 arg5 arg12 arg14 P X Y f4 f5 f12 = [⟨rDy (i 2), dyNext i P X Y (View.ld D (rDy (i 2)))⟩] := by
    delta sound_main.sl.H12_1; rw [v161, View.readAt_eq_ld, View.readAt_eq_ld, hf12, hf4, eX, ← edy]
    generalize hinb : k2_off2_inb i = inb
    clear hinb
    revert inb
    rw [off2_eq]; intro inb; rfl
  have L15a : sound_main.sl.H15_3 c i arg15 P X Y f15 = [⟨rS2, s2A i P X Y (View.ld S1 rS2)⟩, ⟨rS1, s1A i P X Y (View.ld S1 rS1)⟩, ⟨rS0, s0A i P X Y (View.ld S1 rS0)⟩] := by
    delta sound_main.sl.H15_3 sound_main.sl.v69 sound_main.sl.v78; simp only [View.readAt_eq_ld, hf15]; rfl
  have v136 : sound_main.sl.v136 c i arg15 P X Y f15 = s0A i P X Y (View.ld S1 rS0) := by
    delta sound_main.sl.v136
    rw [L15a, cov_miss _ _ _ _ _ rS02.symm, cov_miss _ _ _ _ _ rS01.symm]; exact cov_hit _ _ _ _
  have L15b : sound_main.sl.H15_4 c i arg4 arg5 arg15 P X Y f4 f5 f15 = ⟨rS0, s0Next i P X Y (View.ld S rS0)⟩ :: [⟨rS2, s2A i P X Y (View.ld S1 rS2)⟩, ⟨rS1, s1A i P X Y (View.ld S1 rS1)⟩, ⟨rS0, s0A i P X Y (View.ld S1 rS0)⟩] := by
    delta sound_main.sl.H15_4; simp only [View.readAt_eq_ld, hf4, hf5, eX, v136, L15a, ← e0]; rfl
  have v144 : sound_main.sl.v144 c i arg4 arg5 arg15 P X Y f4 f5 f15 = s1A i P X Y (View.ld S1 rS1) := by
    delta sound_main.sl.v144
    rw [L15b, cov_miss _ _ _ _ _ rS01, cov_miss _ _ _ _ _ rS12.symm]; exact cov_hit _ _ _ _
  have L15c : sound_main.sl.H15_5 c i arg4 arg5 arg15 P X Y f4 f5 f15 = ⟨rS1, s1Next i P X Y (View.ld S rS1)⟩ :: ⟨rS0, s0Next i P X Y (View.ld S rS0)⟩ :: [⟨rS2, s2A i P X Y (View.ld S1 rS2)⟩, ⟨rS1, s1A i P X Y (View.ld S1 rS1)⟩, ⟨rS0, s0A i P X Y (View.ld S1 rS0)⟩] := by
    delta sound_main.sl.H15_5; simp only [View.readAt_eq_ld, hf4, hf5, eX, v144, L15b, ← e1]; rfl
  have v153 : sound_main.sl.v153 c i arg4 arg5 arg15 P X Y f4 f5 f15 = s2A i P X Y (View.ld S1 rS2) := by
    delta sound_main.sl.v153
    rw [L15c, cov_miss _ _ _ _ _ rS12, cov_miss _ _ _ _ _ rS02]; exact cov_hit _ _ _ _
  have L15 : sound_main.sl.H15_6 c i arg4 arg5 arg15 P X Y f4 f5 f15 = ⟨rS2, s2Next i P X Y (View.ld S rS2)⟩ :: ⟨rS1, s1Next i P X Y (View.ld S rS1)⟩ :: ⟨rS0, s0Next i P X Y (View.ld S rS0)⟩ :: [⟨rS2, s2A i P X Y (View.ld S1 rS2)⟩, ⟨rS1, s1A i P X Y (View.ld S1 rS1)⟩, ⟨rS0, s0A i P X Y (View.ld S1 rS0)⟩] := by
    delta sound_main.sl.H15_6; simp only [View.readAt_eq_ld, hf4, hf5, eX, v153, L15c, ← e2]; rfl
  have v188 : sound_main.sl.v188 c i arg4 arg5 arg6 arg13 arg14 P X Y f4 f5 f6 f13 = dxNext i P X Y YT d := by
    delta sound_main.sl.v188; rw [L13]; exact cov_hit _ _ _ _
  have v189 : ∀ h, sound_main.sl.v189 c i arg4 arg5 arg12 arg14 P X Y f4 f5 f12 h = dyNext i P X Y (View.ld D (rDy (i 2))) := by
    intro h
    delta sound_main.sl.v189; rw [L12]
    generalize hinb : k2_off3_inb i h = inb
    clear hinb
    revert inb
    rw [show k2_off3 i = k2_off2 i from rfl, off2_eq]; intro inb
    exact cov_hit arg12.view (rDy (i 2)) _ _
  have v196 : sound_main.sl.v196 c i arg4 arg5 arg15 P X Y f4 f5 f15 = s0Next i P X Y (View.ld S rS0) := by
    delta sound_main.sl.v196
    rw [L15, cov_miss _ _ _ _ _ rS02.symm, cov_miss _ _ _ _ _ rS01.symm]; exact cov_hit _ _ _ _
  have v203 : sound_main.sl.v203 c i arg4 arg5 arg15 P X Y f4 f5 f15 = s1Next i P X Y (View.ld S rS1) := by
    delta sound_main.sl.v203
    rw [L15, cov_miss _ _ _ _ _ rS12.symm]; exact cov_hit _ _ _ _
  have v212 : sound_main.sl.v212 c i arg4 arg5 arg15 P X Y f4 f5 f15 = s2Next i P X Y (View.ld S rS2) := by
    delta sound_main.sl.v212
    rw [L15]; exact cov_hit _ _ _ _
  rw [L12, L13, L15]
  simp only [v188, v189, v196, v203, v212]
  have HD : NextD i P X Y D (arg12.view.read (Elt F) (arg12.view.writes (Elt F) f12 [⟨rDy (i 2), dyNext i P X Y (View.ld D (rDy (i 2)))⟩])) := by
    refine ⟨ld_hit _ _ _ _ _, fun j hj => ?_⟩
    rw [ld_miss _ _ _ _ _ _ (rDy_disj (Ne.symm hj)), ← hD1.2 j hj, ← hf12]; rfl
  have HS : NextS i P X Y S (arg15.view.read (Elt F) (arg15.view.writes (Elt F) f15 (⟨rS2, s2Next i P X Y (View.ld S rS2)⟩ :: ⟨rS1, s1Next i P X Y (View.ld S rS1)⟩ :: ⟨rS0, s0Next i P X Y (View.ld S rS0)⟩ :: [⟨rS2, s2A i P X Y (View.ld S1 rS2)⟩, ⟨rS1, s1A i P X Y (View.ld S1 rS1)⟩, ⟨rS0, s0A i P X Y (View.ld S1 rS0)⟩]))) := by
    refine ⟨?_, ?_, ld_hit _ _ _ _ _⟩
    · rw [ld_miss _ _ _ _ _ _ rS02.symm, ld_miss _ _ _ _ _ _ rS01.symm]; exact ld_hit _ _ _ _ _
    · rw [ld_miss _ _ _ _ _ _ rS12.symm]; exact ld_hit _ _ _ _ _
  sl_step
  iapply Hk $$ %_ %_ %_ %HD %HS [H3] [H4] [H5] [H6] [H7] [H8] [H9] [H10] [H11] [H12] [H13] [H14] [H15]
  · iexists f3; isplitr; · ipureintro; exact hf3
    iexact H3
  · iexists f4; isplitr; · ipureintro; exact hf4
    iexact H4
  · iexists f5; isplitr; · ipureintro; exact hf5
    iexact H5
  · iexists f6; isplitr; · ipureintro; exact hf6
    iexact H6
  · iexists _; isplitr; swap; · iexact H7
    ipureintro
    by_cases h : k2_cond3 i = 1#1
    · rw [dif_pos h, if_pos h, View.read_writes_full]; rfl
    · rw [dif_neg h, if_neg h]; exact hf7
  · iexists _; isplitr; swap; · iexact H8
    ipureintro
    by_cases h : k2_cond3 i = 1#1
    · rw [dif_pos h, if_pos h, View.read_writes_full]; rfl
    · rw [dif_neg h, if_neg h]; exact hf8
  · iexists _; isplitr; swap; · iexact H9
    ipureintro
    by_cases h : k2_cond4 i = 1#1
    · rw [dif_pos h, if_pos h, View.read_writes_full]; rfl
    · rw [dif_neg h, if_neg h]; exact hf9
  · iexists _; isplitr; swap; · iexact H10
    ipureintro
    by_cases h : k2_cond3 i = 1#1
    · rw [dif_pos h, if_pos h, View.read_writes_full]; rfl
    · rw [dif_neg h, if_neg h]; exact hf10
  · iexists _; isplitr; swap; · iexact H11
    ipureintro
    by_cases h : k2_cond3 i = 1#1
    · rw [dif_pos h, if_pos h, View.read_writes_full]; rfl
    · rw [dif_neg h, if_neg h]; exact hf11
  · iexists _; isplitr; swap; · iexact H12
    ipureintro; rfl
  · iexists _; isplitr; swap; · iexact H13
    ipureintro; exact View.read_writes_full _ _ _ _ _
  · iexists _; isplitr; swap; · iexact H14
    ipureintro; rfl
  · iexists _; isplitr; swap; · iexact H15
    ipureintro; rfl

end Cert.KernelIdeal.Hand

end
-- ==== Proof.KernelIdeal.Main.lean ====
/-
  The main pallas_call over its grid of 512 points (batch, block of 1024 rows of x, block of 512 rows of y), program
  with its constants named: what its accumulators hold after each point (`DXV`, `DYV`, `S0V`, `S1V`, `S2V`, by recursion on the point), the
  invariant that says the scratch buffers hold them, the proof data of the call entered from any contents `V` of the arrays,
  and the body obligation the pipeline library asks for.
-/
module

public import proofs.«01_k».proof.Proof.KernelIdeal.MainBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

namespace R2

variable (V : (c : Dev nD) → Valuation τ sig (Elt F))

/-- Window `w`'s block at point `t`, read off its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Point number `n`. -/
def ix (n : ℕ) : Fin cfg2.N := ⟨n % 512, show n % 512 < grid2.N by rw [N_2]; exact Nat.mod_lt _ (by decide)⟩
theorem ix_val (t : Fin cfg2.N) : ix t.val = t := Fin.ext (Nat.mod_eq_of_lt (lt_of_lt_of_eq (show t.val < grid2.N from t.isLt) N_2))

/-! ## The accumulators -/

/-- The accumulator of the gradient of x after the first `n` points, -/
def DXV (c : Dev nD) : ℕ → Vec F S1152x1024 .f32
  | 0 => k2_pay8
  | n + 1 => dxNext (grid2.coords (ix n)) (iblk V c 0 (ix n)) (iblk V c 1 (ix n)) (iblk V c 2 (ix n)) (iblk V c 3 (ix n)) (DXV c n)
/-- the three sums' rows, -/
def S0V (c : Dev nD) : ℕ → Vec F S1x8x1024 .f32
  | 0 => View.ld k2_pay9 rS0
  | n + 1 => s0Next (grid2.coords (ix n)) (iblk V c 0 (ix n)) (iblk V c 1 (ix n)) (iblk V c 2 (ix n)) (S0V c n)
def S1V (c : Dev nD) : ℕ → Vec F S1x8x1024 .f32
  | 0 => View.ld k2_pay9 rS1
  | n + 1 => s1Next (grid2.coords (ix n)) (iblk V c 0 (ix n)) (iblk V c 1 (ix n)) (iblk V c 2 (ix n)) (S1V c n)
def S2V (c : Dev nD) : ℕ → Vec F S1x8x1024 .f32
  | 0 => View.ld k2_pay9 rS2
  | n + 1 => s2Next (grid2.coords (ix n)) (iblk V c 0 (ix n)) (iblk V c 1 (ix n)) (iblk V c 2 (ix n)) (S2V c n)
/-- and slice `j` of the accumulator of the gradient of y after the first `q` points that visit it. -/
def DYV (c : Dev nD) (j : ℕ) : ℕ → Vec F S1x1152x512 .f32
  | 0 => k2_pay10
  | q + 1 => dyNext (grid2.coords (ix (16 * q + j))) (iblk V c 0 (ix (16 * q + j))) (iblk V c 1 (ix (16 * q + j))) (iblk V c 2 (ix (16 * q + j))) (DYV c j q)

/-- How many of the first `n` points visit slice `j`. -/
def visits (j n : ℕ) : ℕ := (n + 15 - j) / 16

/-- What the scratch buffers hold before point `n`. -/
def Inv (c : Dev nD) (n : ℕ) (D : Vec F S16x1152x512 .f32) (d : Vec F S1152x1024 .f32) (S : Vec F S3x8x1024 .f32) : Prop :=
  (n = 0 ∨ (d = DXV V c n ∧ View.ld S rS0 = S0V V c n ∧ View.ld S rS1 = S1V V c n ∧ View.ld S rS2 = S2V V c n))
    ∧ ∀ j : Fin 16, visits j.val n = 0 ∨ View.ld D (rDy j) = DYV V c j.val (visits j.val n)

/-! ## The grid's conditions -/

theorem coord2 : ∀ t : Fin cfg2.N, (grid2.coords t 2).val = t.val % 16 :=
  (by decide +kernel : ∀ t : Fin grid2.N, (grid2.coords t 2).val = t.val % 16)
theorem coord1 : ∀ t : Fin cfg2.N, (grid2.coords t 1).val = t.val / 16 % 8 :=
  (by decide +kernel : ∀ t : Fin grid2.N, (grid2.coords t 1).val = t.val / 16 % 8)
theorem coord0 : ∀ t : Fin cfg2.N, (grid2.coords t 0).val = t.val / 128 :=
  (by decide +kernel : ∀ t : Fin grid2.N, (grid2.coords t 0).val = t.val / 128)
theorem cond1_iff : ∀ t : Fin cfg2.N, cond1 (grid2.coords t) = 1#1 ↔ t.val % 16 = 0 :=
  (by decide +kernel : ∀ t : Fin grid2.N, cond1 (grid2.coords t) = 1#1 ↔ t.val % 16 = 0)
theorem cond2_iff : ∀ t : Fin cfg2.N, k2_cond2 (grid2.coords t) = 1#1 ↔ t.val / 16 % 8 = 0 :=
  (by decide +kernel : ∀ t : Fin grid2.N, k2_cond2 (grid2.coords t) = 1#1 ↔ t.val / 16 % 8 = 0)
theorem cond3_iff : ∀ t : Fin cfg2.N, k2_cond3 (grid2.coords t) = 1#1 ↔ t.val % 16 = 15 :=
  (by decide +kernel : ∀ t : Fin grid2.N, k2_cond3 (grid2.coords t) = 1#1 ↔ t.val % 16 = 15)
theorem cond4_iff : ∀ t : Fin cfg2.N, k2_cond4 (grid2.coords t) = 1#1 ↔ t.val / 16 % 8 = 7 :=
  (by decide +kernel : ∀ t : Fin grid2.N, k2_cond4 (grid2.coords t) = 1#1 ↔ t.val / 16 % 8 = 7)
theorem flush6_iff : ∀ t : Fin cfg2.N, (cfg2.win 6).flush t = true ↔ t.val / 16 % 8 = 7 :=
  (by decide +kernel : ∀ t : Fin grid2.N, win2_6.flush t = true ↔ t.val / 16 % 8 = 7)

/-! ## One step -/

theorem dx_step (c : Dev nD) (t : Fin cfg2.N) {D d S} (h : Inv V c t.val D d S) :
    dxNext (grid2.coords t) (iblk V c 0 t) (iblk V c 1 t) (iblk V c 2 t) (iblk V c 3 t) d = DXV V c (t.val + 1) := by
  show _ = dxNext _ _ _ _ _ _
  rw [ix_val]
  rcases h.1 with h0 | h0
  · unfold dxNext; rw [if_pos ((cond1_iff t).mpr (by omega)), if_pos ((cond1_iff t).mpr (by omega))]
  · rw [h0.1]
theorem s0_step (c : Dev nD) (t : Fin cfg2.N) {D d S} (h : Inv V c t.val D d S) :
    s0Next (grid2.coords t) (iblk V c 0 t) (iblk V c 1 t) (iblk V c 2 t) (View.ld S rS0) = S0V V c (t.val + 1) := by
  show _ = s0Next _ _ _ _ _
  rw [ix_val]
  rcases h.1 with h0 | h0
  · unfold s0Next; rw [if_pos ((cond1_iff t).mpr (by omega)), if_pos ((cond1_iff t).mpr (by omega))]
  · rw [h0.2.1]
theorem s1_step (c : Dev nD) (t : Fin cfg2.N) {D d S} (h : Inv V c t.val D d S) :
    s1Next (grid2.coords t) (iblk V c 0 t) (iblk V c 1 t) (iblk V c 2 t) (View.ld S rS1) = S1V V c (t.val + 1) := by
  show _ = s1Next _ _ _ _ _
  rw [ix_val]
  rcases h.1 with h0 | h0
  · unfold s1Next; rw [if_pos ((cond1_iff t).mpr (by omega)), if_pos ((cond1_iff t).mpr (by omega))]
  · rw [h0.2.2.1]
theorem s2_step (c : Dev nD) (t : Fin cfg2.N) {D d S} (h : Inv V c t.val D d S) :
    s2Next (grid2.coords t) (iblk V c 0 t) (iblk V c 1 t) (iblk V c 2 t) (View.ld S rS2) = S2V V c (t.val + 1) := by
  show _ = s2Next _ _ _ _ _
  rw [ix_val]
  rcases h.1 with h0 | h0
  · unfold s2Next; rw [if_pos ((cond1_iff t).mpr (by omega)), if_pos ((cond1_iff t).mpr (by omega))]
  · rw [h0.2.2.2]
theorem dy_step (c : Dev nD) (t : Fin cfg2.N) {D d S} (h : Inv V c t.val D d S) :
    dyNext (grid2.coords t) (iblk V c 0 t) (iblk V c 1 t) (iblk V c 2 t) (View.ld D (rDy (grid2.coords t 2))) = DYV V c (t.val % 16) (t.val / 16 + 1) := by
  show _ = dyNext _ _ _ _ _
  rw [show 16 * (t.val / 16) + t.val % 16 = t.val from Nat.div_add_mod _ _, ix_val]
  have hv : visits (grid2.coords t 2).val t.val = t.val / 16 := by rw [coord2]; unfold visits; omega
  have h2 := h.2 (grid2.coords t 2)
  rw [hv, coord2] at h2
  rcases h2 with h0 | h0
  · unfold dyNext; rw [if_pos ((cond2_iff t).mpr (by omega)), if_pos ((cond2_iff t).mpr (by omega))]
  · rw [h0]

/-- The invariant after the body from the invariant before it. -/
theorem inv_step (c : Dev nD) (t : Fin cfg2.N) {D D' d S S'} (h : Inv V c t.val D d S)
    (hD : NextD (grid2.coords t) (iblk V c 0 t) (iblk V c 1 t) (iblk V c 2 t) D D') (hS : NextS (grid2.coords t) (iblk V c 0 t) (iblk V c 1 t) (iblk V c 2 t) S S') :
    Inv V c (t.val + 1) D' (dxNext (grid2.coords t) (iblk V c 0 t) (iblk V c 1 t) (iblk V c 2 t) (iblk V c 3 t) d) S' := by
  refine ⟨Or.inr ⟨dx_step V c t h, hS.1.trans (s0_step V c t h), hS.2.1.trans (s1_step V c t h), hS.2.2.trans (s2_step V c t h)⟩, fun j => ?_⟩
  by_cases hj : j = grid2.coords t 2
  · right
    subst hj
    rw [hD.1, dy_step V c t h, coord2]
    congr 1
    unfold visits; omega
  · have hj' : j.val ≠ t.val % 16 := fun e => hj (Fin.ext (e.trans (coord2 t).symm))
    have hjlt := j.isLt
    rw [hD.2 j hj, show visits j.val (t.val + 1) = visits j.val t.val from by unfold visits; omega]
    exact h.2 j

/-! ## The proof data -/

/-- The invariant before point `n`: the scratch buffers at contents `Inv` describes; the other calls' staging buffers. -/
def Phi (c : Dev nD) (n : ℕ) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)
    ∗ ∃ (D : Vec F S16x1152x512 .f32) (d : Vec F S1152x1024 .f32) (G : Vec F S512x1024 .bf16) (S : Vec F S3x8x1024 .f32),
      ⌜Inv V c n D d S⌝ ∗ owns (c : Thread nD τ) (Memref.whole cc2_scratch0) fullShare D ∗ owns (c : Thread nD τ) (Memref.whole cc2_scratch1) fullShare d ∗ owns (c : Thread nD τ) (Memref.whole cc2_scratch2) fullShare G ∗ owns (c : Thread nD τ) (Memref.whole cc2_scratch3) fullShare S)

/-- The call is entered with the scoped buffers at any contents; -/
theorem Phi_enter (c : Dev nD) :
    (Pipeline.scopedRest (Ix := Unit) (Name := ℕ) (U := UR sig nD τ) (Lvl := ℕ) (Val := Elt F) (cfgs 2).spec c : sProp 𝕄) ⊢ Phi V c 0 := by
  rw [show (Pipeline.scopedRest (Ix := Unit) (Name := ℕ) (U := UR sig nD τ) (Lvl := ℕ) (Val := Elt F) (cfgs 2).spec c : sProp 𝕄) = _ from scopedRest2_eq c]
  unfold Phi
  iintro ⟨H0, H1, H2, H3, H4, H5, H6, H7, H8, H9, H10, H11, H12, H13, ⟨%D, K0⟩, ⟨%d, K1⟩, ⟨%G, K2⟩, ⟨%S, K3⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists D; iexists d; iexists G; iexists S
  isplitr
  · ipureintro
    refine ⟨Or.inl rfl, fun j => Or.inl ?_⟩
    have := j.isLt
    unfold visits; omega
  isplitl [K0]; · rw [owns_whole]; iexact K0
  isplitl [K1]; · rw [owns_whole]; iexact K1
  isplitl [K2]; · rw [owns_whole]; iexact K2
  rw [owns_whole]; iexact K3
/-- and left so. -/
theorem Phi_leave (c : Dev nD) (n : ℕ) :
    Phi V c n ⊢ (Pipeline.scopedRest (Ix := Unit) (Name := ℕ) (U := UR sig nD τ) (Lvl := ℕ) (Val := Elt F) (cfgs 2).spec c : sProp 𝕄) := by
  rw [show (Pipeline.scopedRest (Ix := Unit) (Name := ℕ) (U := UR sig nD τ) (Lvl := ℕ) (Val := Elt F) (cfgs 2).spec c : sProp 𝕄) = _ from scopedRest2_eq c]
  unfold Phi
  simp only [owns_whole]
  iintro ⟨H0, H1, H2, H3, H4, H5, H6, H7, H8, H9, H10, H11, H12, H13, %D, %d, %G, %S, -, K0, K1, K2, K3⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [K0]; · iexists D; iexact K0
  isplitl [K1]; · iexists d; iexact K1
  isplitl [K2]; · iexists G; iexact K2
  iexists S; iexact K3

/-- The proof data: the arrays as the call finds them; after the body each input's buffer at its block and each output's at
    its function of the accumulators; the invariant `Phi`; nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => outLoss (S0V V c (t.val + 1))
    | ⟨5, _⟩ => outDx (iblk V c 0 t) (DXV V c (t.val + 1))
    | ⟨6, _⟩ => outDy (iblk V c 0 t) (DYV V c (t.val % 16) (t.val / 16 + 1))
    | ⟨7, _⟩ => outDt (iblk V c 0 t) (S1V V c (t.val + 1))
    | ⟨8, _⟩ => outDb (iblk V c 0 t) (S2V V c (t.val + 1))
  Φ t := Phi V c t.val
  q _ := fullShare
  owed _ := 0

theorem A_eq (c : Dev nD) (w : Fin cfg2.W) : (dat V c).A w = V c (Pipeline.arrRef spec2 w) := by
  dsimp only [dat]
theorem Phi_castSucc (c : Dev nD) (t : Fin cfg2.N) : (dat V c).Φ t.castSucc = Phi V c t.val := by
  dsimp only [dat]; exact Pipeline.Dat.Φ_castSucc (fun n _ => Phi V c n) t
theorem Phi_succ (c : Dev nD) (t : Fin cfg2.N) : (dat V c).Φ t.succ = Phi V c (t.val + 1) := by
  dsimp only [dat]; rfl
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = outLoss (S0V V c (t.val + 1)) := by dsimp only [dat]
theorem after5 (c : Dev nD) (t : Fin cfg2.N) : (dat V c).after 5 t = outDx (iblk V c 0 t) (DXV V c (t.val + 1)) := by dsimp only [dat]
theorem after6 (c : Dev nD) (t : Fin cfg2.N) : (dat V c).after 6 t = outDy (iblk V c 0 t) (DYV V c (t.val % 16) (t.val / 16 + 1)) := by dsimp only [dat]
theorem after7 (c : Dev nD) (t : Fin cfg2.N) : (dat V c).after 7 t = outDt (iblk V c 0 t) (S1V V c (t.val + 1)) := by dsimp only [dat]
theorem after8 (c : Dev nD) (t : Fin cfg2.N) : (dat V c).after 8 t = outDb (iblk V c 0 t) (S2V V c (t.val + 1)) := by dsimp only [dat]

/-- Each input's current staging buffer holds its block at every point. -/
theorem before0 (c : Dev nD) (t : Fin cfg2.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg2.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg2.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg2.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- What the obligation asks of output window `w`'s buffer after the body: its contents of the proof data, or, where the
    body stores nothing into it and no write-back follows, what it held. -/
def leaves (c : Dev nD) (w : Fin cfg2.W) (t : Fin cfg2.N) : sProp 𝕄 :=
  match cfg2.idle w (cfg2.grid.coords t) with
  | true =>
    match (cfg2.win w).flush t with
    | false => iprop(∃ d, owns c ((cfg2.win w).stage (cfg2.slots t w)) fullShare ((dat V c).before w t d))
    | true => owns c ((cfg2.win w).stage (cfg2.slots t w)) fullShare ((dat V c).after w t)
  | false => owns c ((cfg2.win w).stage (cfg2.slots t w)) fullShare ((dat V c).after w t)

theorem leaves_of (c : Dev nD) (w : Fin cfg2.W) (t : Fin cfg2.N) (p : Prop) [Decidable p] (d X)
    (hi : cfg2.idle w (cfg2.grid.coords t) = true → ¬ p) (hi' : cfg2.idle w (cfg2.grid.coords t) = false → p)
    (hf : (cfg2.win w).flush t = true → p) (hX : X = if p then (dat V c).after w t else (dat V c).before w t d) :
    (owns (c : Thread nD τ) ((cfg2.win w).stage (cfg2.slots t w)) fullShare X : sProp 𝕄) ⊢ leaves V c w t := by
  unfold leaves
  subst hX
  by_cases hp : p
  · rw [if_pos hp]
    split
    · rename_i e; exact absurd hp (hi e)
    · exact .rfl
  · rw [if_neg hp]
    split
    · split
      · iintro H; iexists d; iexact H
      · rename_i e'; exact absurd (hf e') hp
    · rename_i e; exact absurd (hi' e) hp

theorem not_beq_iff {b : BitVec 1} : ((!(b == 1#1)) = true → ¬ b = 1#1) ∧ ((!(b == 1#1)) = false → b = 1#1) := by
  revert b; decide

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ leaves V c 4 t ∗ leaves V c 5 t ∗ leaves V c 6 t ∗ leaves V c 7 t ∗ leaves V c 8 t)

set_option maxHeartbeats 4000000 in
/-- The body at any point: `sound_main` from the invariant's contents, the invariant after it by `inv_step`. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3]
  rw [Phi_castSucc, Phi_succ, show (dat V c).owesAt () t.succ = (dat V c).owesAt () t.castSucc from rfl,
    after0, after1, after2, after3]
  unfold Phi
  iintro ⟨⟨HR0, HR1, HR2, HR3, HR4, HR5, HR6, HR7, HR8, HR9, HR10, HR11, HR12, HR13, %D, %d, %G, %S, %hI, K0, K1, K2, K3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_main c Set.univ (grid2.coords t) _ _ _ _ _ _ _ _ _ _ _ _ _ _ _ _ _ _ _ _ _ _ _ _ _ _ (iblk V c 0 t) (iblk V c 1 t) (iblk V c 2 t) (iblk V c 3 t) ((dat V c).before 4 t d4) ((dat V c).before 5 t d5) ((dat V c).before 6 t d6) ((dat V c).before 7 t d7) ((dat V c).before 8 t d8) D d G S _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [K0]; · iexact K0
  isplitl [K1]; · iexact K1
  isplitl [K2]; · iexact K2
  isplitl [K3]; · iexact K3
  iintro %D' %G' %S' %hD %hS H0 H1 H2 H3 H4 H5 H6 H7 H8 K0 K1 K2 K3
  rw [s0_step V c t hI, s1_step V c t hI, s2_step V c t hI, dy_step V c t hI]
  isplitl [HR0 HR1 HR2 HR3 HR4 HR5 HR6 HR7 HR8 HR9 HR10 HR11 HR12 HR13 K0 K1 K2 K3]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    iexists D'; iexists _; iexists G'; iexists S'
    isplitr; · ipureintro; exact inv_step V c t hI hD hS
    isplitl [K0]; · iexact K0
    isplitl [K1]; · iexact K1
    isplitl [K2]; · iexact K2
    iexact K3
  rw [dx_step V c t hI]
  isplitl [Ho]; · iexact Ho
  isplitl [H0]; · iexact H0
  isplitl [H1]; · iexact H1
  isplitl [H2]; · iexact H2
  isplitl [H3]; · iexact H3
  isplitl [H4]; · iapply (leaves_of V c 4 t (k2_cond3 (grid2.coords t) = 1#1) d4 _ not_beq_iff.1 not_beq_iff.2 (fun e => (cond3_iff t).mpr ((flush2_4 t).mp e)) (by rw [after4])); iexact H4
  isplitl [H5]; · iapply (leaves_of V c 5 t (k2_cond3 (grid2.coords t) = 1#1) d5 _ not_beq_iff.1 not_beq_iff.2 (fun e => (cond3_iff t).mpr ((flush2_5 t).mp e)) (by rw [after5])); iexact H5
  isplitl [H6]; · iapply (leaves_of V c 6 t (k2_cond4 (grid2.coords t) = 1#1) d6 _ not_beq_iff.1 not_beq_iff.2 (fun e => (cond4_iff t).mpr ((flush6_iff t).mp e)) (by rw [after6])); iexact H6
  isplitl [H7]; · iapply (leaves_of V c 7 t (k2_cond3 (grid2.coords t) = 1#1) d7 _ not_beq_iff.1 not_beq_iff.2 (fun e => (cond3_iff t).mpr ((flush2_7 t).mp e)) (by rw [after7])); iexact H7
  iapply (leaves_of V c 8 t (k2_cond3 (grid2.coords t) = 1#1) d8 _ not_beq_iff.1 not_beq_iff.2 (fun e => (cond3_iff t).mpr ((flush2_8 t).mp e)) (by rw [after8])); iexact H8

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end R2

end Cert.KernelIdeal.Hand

end
-- ==== Proof.KernelIdeal.Run.lean ====
/-
  The run of the whole program (with its constants named), at any float semantics: from any memory every weakly fair execution terminates,
  every unscoped buffer then holds what the last valuation of the chain says, every semaphore counter is zero. The chain:
  the launch, the two calls that build the operands, the host's scalars, the main call, the host's reshapes.
-/
module

public import proofs.«01_k».proof.Proof.KernelIdeal.Prep
public import proofs.«01_k».proof.Proof.KernelIdeal.Main
public import proofs.«01_k».proof.Proof.Gen.KernelIdeal.Launch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## What each call leaves -/

/-- The buffers after the call that builds the transposed x. -/
def U1 (c : Dev nD) : Valuation τ sig (Elt F) := Function.update (V0 m c) main_v0 ((R0.dat (V0 m) c).arrAt 2 cfg0.N)
/-- The buffers after the call that builds y and the transposed y. -/
def U2 (c : Dev nD) : Valuation τ sig (Elt F) :=
  Function.update (Function.update (U1 m c) main_v1_0 ((R1.dat (U1 m) c).arrAt 2 cfg1.N)) main_v1_1 ((R1.dat (U1 m) c).arrAt 3 cfg1.N)
/-- The buffers after the host's scalars: the main call's entry. -/
def U3 (c : Dev nD) : Valuation τ sig (Elt F) := StableHlo.after hostOps2 (U2 m c)
/-- The buffers after the main call. -/
def U4 (c : Dev nD) : Valuation τ sig (Elt F) :=
  Function.update (Function.update (Function.update (Function.update (Function.update (U3 m c)
    main_v7_0 ((R2.dat (U3 m) c).arrAt 4 cfg2.N)) main_v7_1 ((R2.dat (U3 m) c).arrAt 5 cfg2.N))
    main_v7_2 ((R2.dat (U3 m) c).arrAt 6 cfg2.N)) main_v7_3 ((R2.dat (U3 m) c).arrAt 7 cfg2.N))
    main_v7_4 ((R2.dat (U3 m) c).arrAt 8 cfg2.N)

/-- What the calls leave, item by item. -/
def outs : Outs (F := F) := fun k r c => match k with
  | 1 => U1 m c r
  | 2 => U2 m c r
  | _ => U4 m c r

theorem U1_v0 (c : Dev nD) : U1 m c main_v0 = (R0.dat (V0 m) c).arrAt 2 cfg0.N := by
  unfold U1; exact Function.update_self ..
theorem U2_v1_1 (c : Dev nD) : U2 m c main_v1_1 = (R1.dat (U1 m) c).arrAt 3 cfg1.N := by
  unfold U2; exact Function.update_self ..
theorem U2_v1_0 (c : Dev nD) : U2 m c main_v1_0 = (R1.dat (U1 m) c).arrAt 2 cfg1.N := by
  unfold U2; rw [Function.update_of_ne (by decide)]; exact Function.update_self ..
theorem U4_v7_4 (c : Dev nD) : U4 m c main_v7_4 = (R2.dat (U3 m) c).arrAt 8 cfg2.N := by
  unfold U4; exact Function.update_self ..
theorem U4_v7_3 (c : Dev nD) : U4 m c main_v7_3 = (R2.dat (U3 m) c).arrAt 7 cfg2.N := by
  unfold U4; rw [Function.update_of_ne (by decide)]; exact Function.update_self ..
theorem U4_v7_2 (c : Dev nD) : U4 m c main_v7_2 = (R2.dat (U3 m) c).arrAt 6 cfg2.N := by
  unfold U4; rw [Function.update_of_ne (by decide), Function.update_of_ne (by decide)]; exact Function.update_self ..
theorem U4_v7_1 (c : Dev nD) : U4 m c main_v7_1 = (R2.dat (U3 m) c).arrAt 5 cfg2.N := by
  unfold U4; rw [Function.update_of_ne (by decide), Function.update_of_ne (by decide), Function.update_of_ne (by decide)]; exact Function.update_self ..
theorem U4_v7_0 (c : Dev nD) : U4 m c main_v7_0 = (R2.dat (U3 m) c).arrAt 4 cfg2.N := by
  unfold U4; rw [Function.update_of_ne (by decide), Function.update_of_ne (by decide), Function.update_of_ne (by decide), Function.update_of_ne (by decide)]; exact Function.update_self ..

theorem V1_eq (c : Dev nD) : V1 m (outs m) c = U1 m c := by
  have e0 : outs m 1 main_v0 c = _ := U1_v0 m c
  unfold V1; rw [e0]; rfl
theorem V2_eq (c : Dev nD) : V2 m (outs m) c = U2 m c := by
  have e0 : outs m 2 main_v1_0 c = _ := U2_v1_0 m c
  have e1 : outs m 2 main_v1_1 c = _ := U2_v1_1 m c
  unfold V2; rw [V1_eq, e0, e1]; rfl
theorem V3_eq (c : Dev nD) : V3 m (outs m) c = U3 m c := by
  unfold V3 U3; rw [V2_eq]
theorem V4_eq (c : Dev nD) : V4 m (outs m) c = U4 m c := by
  have e0 : outs m 4 main_v7_0 c = _ := U4_v7_0 m c
  have e1 : outs m 4 main_v7_1 c = _ := U4_v7_1 m c
  have e2 : outs m 4 main_v7_2 c = _ := U4_v7_2 m c
  have e3 : outs m 4 main_v7_3 c = _ := U4_v7_3 m c
  have e4 : outs m 4 main_v7_4 c = _ := U4_v7_4 m c
  unfold V4; rw [V3_eq, e0, e1, e2, e3, e4]; rfl
/-- The last valuation: the host's reshapes of the main call's results. -/
theorem V5_eq (c : Dev nD) : V5 m (outs m) c = StableHlo.after hostOps3 (U4 m c) := by
  unfold V5; rw [V4_eq]

/-! ## The three calls' records -/

/-- The calls' proof data. -/
def pdats (p : Fin 3) (c : Dev nD) : Dat τ (Elt F) Unit ℕ (UR sig nD τ) ℕ (cfgs p) c := match p with
  | ⟨0, _⟩ => R0.dat (V0 m) c
  | ⟨1, _⟩ => R1.dat (U1 m) c
  | ⟨2, _⟩ => R2.dat (U3 m) c

set_option backward.isDefEq.respectTransparency.types false in
/-- The first call's record. -/
def reg0 : RegionSeg (pcfgs (F := F)) adm (pdats m) () defs₀ Variants.none L lv 0 :=
  reg (pdats m) 0 launch0 (V0 m) (V1 m (outs m))
    (fun c => R0.body_obligation (V0 m) c) (fun c w => R0.A_eq (V0 m) c w)
    (fun c => .rfl) (fun c => .rfl) (fun c t => rfl) (fun c t x => trivial) (fun c w => rfl)
    (fun c w => by
      rw [V1_eq]
      match w with
      | ⟨0, _⟩ => exact (congrFun (V1_eq m c) _).symm.trans ((V1_of m (outs m) c _ (show Pipeline.arrRef (cfgs 0).spec 0 ∉ _ from by decide)).trans (((R0.dat (V0 m) c).arrAt_in 0 rfl _).trans (R0.A_eq (V0 m) c 0)).symm)
      | ⟨1, _⟩ => exact (congrFun (V1_eq m c) _).symm.trans ((V1_of m (outs m) c _ (show Pipeline.arrRef (cfgs 0).spec 1 ∉ _ from by decide)).trans (((R0.dat (V0 m) c).arrAt_in 1 rfl _).trans (R0.A_eq (V0 m) c 1)).symm)
      | ⟨2, _⟩ => exact U1_v0 m c)
    (fun c b hb => V1_of m (outs m) c b fun h => hb (by revert h; revert b; decide))

set_option backward.isDefEq.respectTransparency.types false in
/-- The second call's record. -/
def reg1 : RegionSeg (pcfgs (F := F)) adm (pdats m) () defs₀ Variants.none L lv 1 :=
  reg (pdats m) 1 launch1 (U1 m) (V2 m (outs m))
    (fun c => R1.body_obligation (U1 m) c) (fun c w => R1.A_eq (U1 m) c w)
    (fun c => .rfl) (fun c => .rfl) (fun c t => rfl) (fun c t x => trivial) (fun c w => rfl)
    (fun c w => by
      match w with
      | ⟨0, _⟩ => exact (V2_of m (outs m) c _ (show Pipeline.arrRef (cfgs 1).spec 0 ∉ _ from by decide)).trans ((congrFun (V1_eq m c) _).trans (((R1.dat (U1 m) c).arrAt_in 0 rfl _).trans (R1.A_eq (U1 m) c 0)).symm)
      | ⟨1, _⟩ => exact (V2_of m (outs m) c _ (show Pipeline.arrRef (cfgs 1).spec 1 ∉ _ from by decide)).trans ((congrFun (V1_eq m c) _).trans (((R1.dat (U1 m) c).arrAt_in 1 rfl _).trans (R1.A_eq (U1 m) c 1)).symm)
      | ⟨2, _⟩ => exact (congrFun (V2_eq m c) _).trans (U2_v1_0 m c)
      | ⟨3, _⟩ => exact (congrFun (V2_eq m c) _).trans (U2_v1_1 m c))
    (fun c b hb => (V2_of m (outs m) c b fun h => hb (by revert h; revert b; decide)).trans (congrFun (V1_eq m c) _))

set_option backward.isDefEq.respectTransparency.types false in
/-- The main call's record. -/
def reg2 : RegionSeg (pcfgs (F := F)) adm (pdats m) () defs₀ Variants.none L lv 2 :=
  reg (pdats m) 2 launch2 (U3 m) (V4 m (outs m))
    (fun c => R2.body_obligation (U3 m) c) (fun c w => R2.A_eq (U3 m) c w)
    (fun c => R2.Phi_enter (U3 m) c) (fun c => R2.Phi_leave (U3 m) c _) (fun c t => rfl) (fun c t x => trivial) (fun c w => rfl)
    (fun c w => by
      match w with
      | ⟨0, _⟩ => exact (V4_of m (outs m) c _ (show Pipeline.arrRef (cfgs 2).spec 0 ∉ _ from by decide)).trans ((congrFun (V3_eq m c) _).trans (((R2.dat (U3 m) c).arrAt_in 0 rfl _).trans (R2.A_eq (U3 m) c 0)).symm)
      | ⟨1, _⟩ => exact (V4_of m (outs m) c _ (show Pipeline.arrRef (cfgs 2).spec 1 ∉ _ from by decide)).trans ((congrFun (V3_eq m c) _).trans (((R2.dat (U3 m) c).arrAt_in 1 rfl _).trans (R2.A_eq (U3 m) c 1)).symm)
      | ⟨2, _⟩ => exact (V4_of m (outs m) c _ (show Pipeline.arrRef (cfgs 2).spec 2 ∉ _ from by decide)).trans ((congrFun (V3_eq m c) _).trans (((R2.dat (U3 m) c).arrAt_in 2 rfl _).trans (R2.A_eq (U3 m) c 2)).symm)
      | ⟨3, _⟩ => exact (V4_of m (outs m) c _ (show Pipeline.arrRef (cfgs 2).spec 3 ∉ _ from by decide)).trans ((congrFun (V3_eq m c) _).trans (((R2.dat (U3 m) c).arrAt_in 3 rfl _).trans (R2.A_eq (U3 m) c 3)).symm)
      | ⟨4, _⟩ => exact (congrFun (V4_eq m c) _).trans (U4_v7_0 m c)
      | ⟨5, _⟩ => exact (congrFun (V4_eq m c) _).trans (U4_v7_1 m c)
      | ⟨6, _⟩ => exact (congrFun (V4_eq m c) _).trans (U4_v7_2 m c)
      | ⟨7, _⟩ => exact (congrFun (V4_eq m c) _).trans (U4_v7_3 m c)
      | ⟨8, _⟩ => exact (congrFun (V4_eq m c) _).trans (U4_v7_4 m c))
    (fun c b hb => (V4_of m (outs m) c b fun h => hb (by revert h; revert b; decide)).trans (congrFun (V3_eq m c) _))

/-! ## The run -/

/-- What rides beside the buffers between the items. -/
def E (_ : Fin 4) (c : Dev nD) : sProp 𝕄 := rest (F := F) c

set_option backward.isDefEq.respectTransparency.types false in
/-- THE RUN, given the three calls' records: every weakly fair execution from memory `m` terminates, and every final state
    holds each unscoped buffer at the last valuation and every semaphore counter at zero. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V1 m outs c) ∗ E 1 c) ⊢ R1.pre c)
    (hpost1 : ∀ c : Dev nD, R1.post c ⊢ iprop(StableHlo.held (c : Thread nD τ) (Pipeline.ucRefs τ sig) (V2 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V3 m outs c) ∗ E 2 c) ⊢ R2.pre c)
    (hpost2 : ∀ c : Dev nD, R2.post c ⊢ iprop(StableHlo.held (c : Thread nD τ) (Pipeline.ucRefs τ sig) (V4 m outs c) ∗ E 3 c)) :
    θ_run defs (onTc (τ := τ) (main (F := F))) ⟨m, fun _ => 0, ρ⟩ (fun r => (∀ c : Dev nD, ∀ r₀ : Ref sig .tc, ¬ r₀.isScoped → r.2.mem ((c.tc : Thread nD τ).loc r₀) = V5 m outs c r₀) ∧ r.2.sem = fun _ => 0) := by
  refine Pipeline.θ_run_regions_kit_dev_sems (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨hpre0 c, (hpost0 c).trans (hpre1 c), hpost1 c, hpre2 c, hpost2 c, sep_mono .rfl (hE3 c)⟩)
    (hinit := ?_) (QY := fun c s => ∀ r₀ : Ref sig .tc, ¬ r₀.isScoped → s.mem ((c.tc : Thread nD τ).loc r₀) = V5 m outs c r₀)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each unscoped buffer read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact fun r₀ hr => h (Proc.devRef .tc r₀) (Finset.mem_filter.mpr ⟨StableHlo.devRef_mem_tcRefs r₀, hr⟩)
    · iexact HSI

/-- THE RUN: every weakly fair execution from memory `m` terminates, every unscoped buffer then holds what the chain of
    valuations says, every semaphore counter is zero. -/
theorem run_all (ρ : Dev nD → PrngReg) :
    θ_run defs (onTc (τ := τ) (main (F := F))) ⟨m, fun _ => 0, ρ⟩ (fun r =>
      (∀ c : Dev nD, ∀ r₀ : Ref sig .tc, ¬ r₀.isScoped → r.2.mem ((c.tc : Thread nD τ).loc r₀) = V5 m (outs m) c r₀)
      ∧ r.2.sem = fun _ => 0) := by
  refine run_cond (Ix := Unit) (U := UR sig nD τ) (Lvl := ℕ) m emb₁ () Variants.none L lv (fun _ _ => rfl) ρ (outs m) (pdats m)
    (fun _ => 0) (fun _ => (BI.emp : sProp 𝕄)) (initOf (Pipeline.cells cfgs cellOf_inj) (Pipeline.launchToks cfgs cellOf_inj)) ?_
    (E (F := F)) ?_ (fun c => .rfl) (reg0 m) (fun c => .rfl) (fun c => .rfl)
    (reg1 m) (fun c => ?_) (fun c => .rfl) (reg2 m) (fun c => ?_) (fun c => .rfl)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep (Finset.univ : Finset (Dev nD)) (fun _ => (BI.emp : sProp 𝕄)) from by rw [BI.bigSep_emp_const])
    iempintro
  · have h : ∀ c : Dev nD, iprop(unscopedSems0 c ∗ owes (c : Thread nD τ) (0 : CellTallies nD τ sig Unit) ∅ ∗ Pipeline.launchCred (fun _ => 0) c ∗ prngReg c (ρ c) ∗ BI.emp)
        ⊢ (E (F := F) 0 c : sProp 𝕄) := fun c => by
      unfold E rest
      iintro ⟨-, HO, -, -, -⟩
      iexists _; iexact HO
    have hb : bigSep Finset.univ (fun c : Dev nD => iprop(unscopedSems0 c ∗ owes (c : Thread nD τ) (0 : CellTallies nD τ sig Unit) ∅ ∗ Pipeline.launchCred (fun _ => 0) c ∗ prngReg c (ρ c) ∗ BI.emp))
        ⊢ (bigSep Finset.univ (E (F := F) 0) : sProp 𝕄) := bigSep_mono fun c _ => h c
    iintro ⟨H, -⟩
    imodintro
    ihave H' := hb $$ H
    iexact H'
  · rw [V1_eq]; exact .rfl
  · rw [V3_eq]; exact .rfl

/-- THE FRAME: every weakly fair execution terminates, the arguments end as they began, every semaphore counter is zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c main_arg0 (by decide)).trans (V5_main_arg0 m _ c), (h.1 c main_arg1 (by decide)).trans (V5_main_arg1 m _ c), (h.1 c main_arg2 (by decide)).trans (V5_main_arg2 m _ c), (h.1 c main_arg3 (by decide)).trans (V5_main_arg3 m _ c), (h.1 c main_arg4 (by decide)).trans (V5_main_arg4 m _ c), (h.1 c main_arg5 (by decide)).trans (V5_main_arg5 m _ c)⟩, h.2⟩) (run_all m ρ)

end Cert.KernelIdeal.Hand

end
-- ==== Proof.Scalar.lean ====
/-
  The scalar mathematics of the loss, over the extended reals: the kernel's log-sigmoid and sigmoid through exp2 and
  natural log with named constants agree, at every extended real, with the reference's softplus and 1 / (1 + exp (-x));
  and the sums of products by a positive real, re-associated and re-indexed. No program is mentioned here.
-/
module

public import Idealize.ShloMosaic.PureOps.Ideal.Laws
public import Idealize.ShloMosaic.Lib.IdealHost
public import Mathlib.Algebra.BigOperators.Fin
public import Mathlib.Algebra.BigOperators.Intervals

@[expose] public section

noncomputable section

namespace Siglip

open Idealize.ShloMosaic
open scoped BigOperators

/-- The named constant log2 e = 1 / log 2. -/
abbrev cL2E : EReal := (((Real.log 2)⁻¹ : ℝ) : EReal)
/-- The named constant -log2 e. -/
abbrev cNL2E : EReal := ((-((Real.log 2)⁻¹) : ℝ) : EReal)
/-- The named constant log 2. -/
abbrev cLN2 : EReal := ((Real.log 2 : ℝ) : EReal)

/-- The kernel's `exp2 (|x| * -log2 e)`. -/
def ke (x : EReal) : EReal := Ideal.exp2 (max x (-x) * cNL2E)
/-- The kernel's log-loss term at the logit `x`, `d` telling the diagonal. -/
def kSp (d : BitVec 1) (x : EReal) : EReal :=
  max (Scalar.select d (0 - x) x) 0 + ((Ideal.log (1 + ke x) * cL2E) * cLN2 + (ke x - ((1 + ke x) - 1)))
/-- The kernel's sigmoid. -/
def kSig (x : EReal) : EReal :=
  if 0 ≤ x then Ideal.div 1 (1 + ke x) else ke x * Ideal.div 1 (1 + ke x)
/-- The kernel's gradient entry: sigmoid, less one on the diagonal. -/
def kG (d : BitVec 1) (x : EReal) : EReal := Scalar.select d (kSig x - 1) (kSig x)

/-- The reference's softplus. -/
def rSp (x : EReal) : EReal :=
  Scalar.select (Ideal.cmp .une (x - 0) (x - 0)) (x + 0) (max x 0 + Ideal.log1p (Ideal.exp (-(max (x - 0) (-(x - 0))))))
/-- The reference's sigmoid. -/
def rSig (x : EReal) : EReal := Ideal.div 1 (1 + Ideal.exp (-x))

theorem log2_pos : 0 < Real.log 2 := Real.log_pos (by norm_num)

/-- `exp2 (|x| * -log2 e) = exp (-|x|)`. -/
theorem ke_eq (x : EReal) : ke x = Ideal.exp (-(max x (-x))) := by
  have hneg : (-((Real.log 2)⁻¹) : ℝ) < 0 := neg_lt_zero.mpr (inv_pos.mpr log2_pos)
  induction x using EReal.rec with
  | bot =>
    simp only [ke, cNL2E, EReal.neg_bot, max_eq_right bot_le]
    rw [EReal.top_mul_coe_of_neg hneg]; simp
  | top =>
    simp only [ke, cNL2E, EReal.neg_top, max_eq_left bot_le]
    rw [EReal.top_mul_coe_of_neg hneg]; simp
  | coe r =>
    simp only [ke, cNL2E]
    rw [← EReal.coe_neg, ← EReal.coe_strictMono.monotone.map_max, ← EReal.coe_mul, ← EReal.coe_neg, Ideal.exp2_coe, Ideal.exp_coe]
    congr 1
    rw [Real.rpow_eq_pow, Real.rpow_def_of_pos (by norm_num)]
    congr 1
    have := log2_pos.ne'
    field_simp

/-- The kernel's exponential lies in `[0, 1]`. -/
theorem ke_real (x : EReal) : ∃ r : ℝ, 0 ≤ r ∧ r ≤ 1 ∧ ke x = (r : EReal) := by
  rw [ke_eq]
  induction x using EReal.rec with
  | bot => exact ⟨0, le_refl _, zero_le_one, by simp⟩
  | top => exact ⟨0, le_refl _, zero_le_one, by simp⟩
  | coe r =>
    refine ⟨Real.exp (-(max r (-r))), (Real.exp_pos _).le, Real.exp_le_one_iff.mpr ?_, ?_⟩
    · have : 0 ≤ max r (-r) := by rw [← abs_eq_max_neg]; exact abs_nonneg r
      linarith
    · rw [← EReal.coe_neg, ← EReal.coe_strictMono.monotone.map_max, ← EReal.coe_neg, Ideal.exp_coe]

theorem select_cases (d : BitVec 1) : d = 0#1 ∨ d = 1#1 := by
  revert d; decide

/-- The log-loss term of the kernel is the reference's softplus of the signed logit. -/
theorem kSp_eq (d : BitVec 1) (x : EReal) : kSp d x = rSp (Scalar.select d (-x) x) := by
  obtain ⟨r, h0, h1, hr⟩ := ke_real x
  have hl : (Ideal.log (1 + ke x) * cL2E) * cLN2 + (ke x - ((1 + ke x) - 1)) = Ideal.log1p (ke x) := by
    rw [hr, Ideal.log1p, ← EReal.coe_one, ← EReal.coe_add, Ideal.log_coe, if_neg (by linarith), ← EReal.coe_sub, ← EReal.coe_sub,
      ← EReal.coe_mul, ← EReal.coe_mul, ← EReal.coe_add]
    congr 1
    have := log2_pos.ne'
    field_simp
    ring
  have hc : ∀ y : EReal, Ideal.cmp .une (y - 0) (y - 0) = 0#1 := fun y => by simp [Ideal.cmp]
  have hm : max (Scalar.select d (-x) x - 0) (-(Scalar.select d (-x) x - 0)) = max x (-x) := by
    rcases select_cases d with rfl | rfl
    · show max (x - 0) (-(x - 0)) = _
      rw [sub_zero]
    · show max (-x - 0) (-(-x - 0)) = _
      rw [sub_zero, neg_neg, max_comm]
  unfold kSp rSp
  rw [hl, hc, hm, ke_eq, zero_sub]
  rfl

/-- The kernel's sigmoid is the reference's. -/
theorem kSig_eq (x : EReal) : kSig x = rSig x := by
  unfold kSig rSig
  rw [ke_eq]
  induction x using EReal.rec with
  | bot =>
    rw [if_neg (by simp)]
    have h1 : (1 : EReal) + ⊤ = ⊤ := by rw [← EReal.coe_one]; exact EReal.coe_add_top 1
    simp [Ideal.div, h1]
  | top =>
    rw [if_pos le_top]
    simp
  | coe r =>
    rw [← EReal.coe_neg, ← EReal.coe_strictMono.monotone.map_max, ← EReal.coe_neg, Ideal.exp_coe, Ideal.exp_coe, ← EReal.coe_one,
      ← EReal.coe_add, ← EReal.coe_add, Ideal.div_coe (by positivity), Ideal.div_coe (by positivity)]
    by_cases h : 0 ≤ r
    · rw [if_pos (by exact_mod_cast h), max_eq_left (by linarith)]
    · rw [if_neg (by exact_mod_cast h), max_eq_right (by linarith), neg_neg]
      rw [← EReal.coe_mul, ← EReal.coe_mul, ← EReal.coe_mul]
      congr 1
      rw [Real.exp_neg]
      have := (Real.exp_pos r).ne'
      have h2 : (1 + Real.exp r) ≠ 0 := by positivity
      have h3 : (1 + (Real.exp r)⁻¹) ≠ 0 := by positivity
      field_simp
      ring

/-- The reference's gradient entry at the logit `x`: sigmoid, less the diagonal's indicator. -/
def rG (d : BitVec 1) (x : EReal) : EReal := rSig x - ((d.toNat : ℝ) : EReal)

/-- The gradient entries agree. -/
theorem kG_eq (d : BitVec 1) (x : EReal) : kG d x = rG d x := by
  unfold kG rG
  rw [kSig_eq]
  rcases select_cases d with rfl | rfl
  · show rSig x = _
    simp
  · show rSig x - 1 = _
    simp

/-! ## Sums -/

/-- A nonnegative real factor goes inside a sum of extended reals. -/
theorem mul_sum {ι : Type*} (s : Finset ι) (f : ι → EReal) {c : ℝ} (hc : 0 ≤ c) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top _), ih]

/-- The same on the right. -/
theorem sum_mul {ι : Type*} (s : Finset ι) (f : ι → EReal) {c : ℝ} (hc : 0 ≤ c) : (∑ i ∈ s, f i) * (c : EReal) = ∑ i ∈ s, f i * (c : EReal) := by
  rw [mul_comm, mul_sum s f hc]
  exact Finset.sum_congr rfl fun i _ => mul_comm _ _

/-- Two nested ranges are one range. -/
theorem sum_range_range (a b : ℕ) (f : ℕ → EReal) : ∑ i ∈ Finset.range a, ∑ j ∈ Finset.range b, f (i * b + j) = ∑ n ∈ Finset.range (a * b), f n := by
  induction a with
  | zero => simp
  | succ a ih => rw [Finset.sum_range_succ, ih, Nat.succ_mul, Finset.sum_range_add]

/-- The 8192 rows as 8 sublanes of 16 blocks of 2 halves of 32 groups of 8. -/
theorem sum_rows (f : ℕ → EReal) :
    ∑ s ∈ Finset.range 8, ∑ j ∈ Finset.range 16, ∑ k ∈ Finset.range 2, ∑ a ∈ Finset.range 32, f (j * 512 + k * 256 + (a * 8 + s))
      = ∑ n ∈ Finset.range 8192, f n := by
  rw [show (8192 : ℕ) = 16 * 512 from rfl, ← sum_range_range, Finset.sum_comm]
  refine Finset.sum_congr rfl fun j _ => ?_
  rw [show (512 : ℕ) = 2 * 256 from rfl, ← sum_range_range 2 256 fun n => f (j * (2 * 256) + n), Finset.sum_comm]
  refine Finset.sum_congr rfl fun k _ => ?_
  rw [show (256 : ℕ) = 32 * 8 from rfl, ← sum_range_range 32 8 fun n => f (j * (2 * (32 * 8)) + (k * (32 * 8) + n)), Finset.sum_comm]
  refine Finset.sum_congr rfl fun a _ => Finset.sum_congr rfl fun s _ => ?_
  congr 1
  omega

end Siglip
-- ==== Proof.Math.lean ====
/-
  The mathematics both programs compute, over the extended reals: from the temperature `t`, the bias `b` and the widened
  operands `x` and `y`, the loss of every row of x, the gradients, and the sums for the two scalar parameters.
-/
module

public import proofs.«01_k».proof.Proof.Scalar

@[expose] public section

noncomputable section

namespace Siglip

open Idealize.ShloMosaic
open scoped BigOperators

variable (t b : EReal) (x y : Fin 4 → Fin 8192 → Fin 1152 → EReal) (g : Fin 4) (i j : Fin 8192) (d : Fin 1152)

/-- The reciprocal of the sequence's length. -/
def rcp : ℝ := 1 / 8192
/-- Temperature times the product of row `i` of x and row `j` of y, -/
def tdM : EReal := t * ∑ d : Fin 1152, x g i d * y g j d
/-- the logit, -/
def lgM : EReal := tdM t x y g i j + b
/-- whether the two rows are one pair, -/
def dgM : BitVec 1 := BitVec.ofBool (decide (i = j))
/-- the gradient of the logit, -/
def grM : EReal := rG (dgM i j) (lgM t b x y g i j)
/-- and its log-loss term. -/
def spM : EReal := rSp (Scalar.select (dgM i j) (-(lgM t b x y g i j)) (lgM t b x y g i j))

/-- The loss of row `i`, -/
def lossM : EReal := ∑ j : Fin 8192, spM t b x y g i j
/-- the row's part of the temperature's gradient, -/
def dtM : EReal := ∑ j : Fin 8192, grM t b x y g i j * (rcp : EReal) * tdM t x y g i j
/-- the row's part of the bias's gradient, -/
def dbM : EReal := ∑ j : Fin 8192, grM t b x y g i j * (rcp : EReal)
/-- the gradient of x -/
def dxM : EReal := t * ∑ j : Fin 8192, grM t b x y g i j * (rcp : EReal) * y g j d
/-- and the gradient of y. -/
def dyM : EReal := t * ∑ i : Fin 8192, grM t b x y g i j * (rcp : EReal) * x g i d

theorem rcp_nonneg : (0 : ℝ) ≤ rcp := by unfold rcp; norm_num
/-- The printed constant's value. -/
theorem ofBits_rcp : (FloatOps.ofBits (F := Ideal) .f32 0x39000000#32 : EReal) = (rcp : EReal) := by
  unfold rcp
  show Ideal.ofBits .f32 0x39000000#32 = _
  simp [Ideal.ofBits, Ideal.ieee]
  rw [← EReal.coe_mul]
  norm_num

theorem ofBits_one : (FloatOps.ofBits (F := Ideal) .f32 0x3F800000#32 : EReal) = 1 := by
  show Ideal.ofBits .f32 0x3F800000#32 = _
  simp [Ideal.ofBits, Ideal.ieee]
  rw [← EReal.coe_mul]
  norm_num

/-- The kernel's forms of the gradients: the reciprocal of the length multiplied after the sum. -/
theorem dtM_eq : (∑ j : Fin 8192, grM t b x y g i j * tdM t x y g i j) * (rcp : EReal) = dtM t b x y g i := by
  rw [sum_mul _ _ rcp_nonneg]
  exact Finset.sum_congr rfl fun j _ => mul_right_comm _ _ _
theorem dbM_eq : (∑ j : Fin 8192, grM t b x y g i j) * (rcp : EReal) = dbM t b x y g i := sum_mul _ _ rcp_nonneg
theorem dxM_eq : t * (rcp : EReal) * (∑ j : Fin 8192, y g j d * grM t b x y g i j) = dxM t b x y g i d := by
  unfold dxM
  rw [mul_assoc, mul_sum _ _ rcp_nonneg]
  exact congrArg (t * ·) (Finset.sum_congr rfl fun j _ => by rw [mul_comm (y g j d), ← mul_assoc, mul_comm (rcp : EReal)])
theorem dyM_eq : t * (rcp : EReal) * (∑ i : Fin 8192, x g i d * grM t b x y g i j) = dyM t b x y g j d := by
  unfold dyM
  rw [mul_assoc, mul_sum _ _ rcp_nonneg]
  exact congrArg (t * ·) (Finset.sum_congr rfl fun j _ => by rw [mul_comm (x g j d), ← mul_assoc, mul_comm (rcp : EReal)])

end Siglip
-- ==== Proof.ReferenceIdeal.Values.lean ====
/-
  The reference's results over the extended reals, from its arguments.
-/
module

public import proofs.«01_k».proof.Proof.Gen.ReferenceIdeal.Run
public import proofs.«01_k».proof.Proof.Gen.ReferenceIdeal.Read
public import proofs.«01_k».proof.Proof.Math
public import Idealize.ShloMosaic.Lib.Pointwise
public import Idealize.ShloMosaic.Lib.Pipeline.ValueKit.Geometry

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe
open Siglip
open scoped BigOperators

/-- The group of 32 that column `d` lies in. -/
abbrev grp (d : Fin 1152) : Fin 36 := ⟨d.val / 32, by omega⟩

/-- Every code times the scale of its group of 32. -/
def wid (C : Vec Ideal S4x8192x1152 .fp8e4m3) (S : Vec Ideal S4x8192x36 .f32) : Vec Ideal S4x8192x1152 .bf16 :=
  fun y => C (ix3 (y 0) (y 1) (y 2)) * S (ix3 (y 0) (y 1) (grp (y 2)))

section Widen
variable (C : Vec Ideal S4x8192x1152 .fp8e4m3) (S : Vec Ideal S4x8192x36 .f32) (C' : Vec Ideal S4x8192x1152 .fp8e4m3) (S' : Vec Ideal S4x8192x36 .f32)

theorem pay1_eq : k0_pay1 (F := Ideal) C S = wid C S := by
  funext y
  rw [eq_ix3 y]
  pointwise [k0_pay1, wid]
theorem pay2_eq : k0_pay2 (F := Ideal) C S = wid C S := by
  funext y
  rw [eq_ix3 y]
  pointwise [k0_pay2, wid]
theorem out4_eq : out0_4 (F := Ideal) C S C' S' = wid C S := by
  unfold out0_4
  rw [View.canon_cons_unit_lit (S := S4x8192x1152) (off := ![0, 0, 0]) _ _ _ (by decide), View.ld_unit_lit (S := S4x8192x1152) (off := ![0, 0, 0]) _ C (by decide),
    View.ld_unit_lit (S := S4x8192x36) (off := ![0, 0, 0]) _ S (by decide), pay1_eq]
theorem out5_eq : out0_5 (F := Ideal) C S C' S' = wid C' S' := by
  unfold out0_5
  rw [View.canon_cons_unit_lit (S := S4x8192x1152) (off := ![0, 0, 0]) _ _ _ (by decide), View.ld_unit_lit (S := S4x8192x1152) (off := ![0, 0, 0]) _ C' (by decide),
    View.ld_unit_lit (S := S4x8192x36) (off := ![0, 0, 0]) _ S' (by decide), pay2_eq]
end Widen

section Stages
variable (x4 x5 : Vec Ideal S_ .f32) (r0 r1 : Vec Ideal S4x8192x1152 .bf16) (g : Fin 4) (i j : Fin 8192) (d : Fin 1152)

abbrev i0 : S_.Idx := fun a => a.elim0
/-- The operands as the mathematics reads them. -/
abbrev opd (r : Vec Ideal S4x8192x1152 .bf16) (g : Fin 4) (i : Fin 8192) (d : Fin 1152) : EReal := r (ix3 g i d)

theorem s0 (i : S_.Idx) : i = i0 := funext fun a => a.elim0

theorem v1_at (k : S_.Idx) : val_main_v1 (F := Ideal) x4 k = Ideal.exp (x4 i0) := by
  rw [s0 k]; rfl
theorem v4_at : val_main_v4 (F := Ideal) x4 r0 r1 (ix3 g i j) = tdM (Ideal.exp (x4 i0)) (opd r0) (opd r1) g i j := by
  rw [val_main_v4_apply, val_main_v3_apply, v1_at, val_main_v2_apply]
  refine congrArg (Ideal.exp (x4 i0) * ·) (Finset.sum_congr rfl fun d _ => ?_)
  congr 2
  · idx_ext
  · idx_ext
theorem v6_at : val_main_v6 (F := Ideal) x4 x5 r0 r1 (ix3 g i j) = lgM (Ideal.exp (x4 i0)) (x5 i0) (opd r0) (opd r1) g i j := by
  rw [val_main_v6_apply, v4_at, val_main_v5_apply, s0 (idx_main_v5 _)]
  rfl
theorem v13_at (k : S8192x8192.Idx) (h0 : k 0 = i) (h1 : k 1 = j) : val_main_v13 (F := Ideal) k = dgM i j := by
  rw [val_main_v13_apply, val_main_v11_apply, val_main_v12_apply, val_main_v8_apply, val_main_v10_apply, val_main_v7_apply, val_main_v9_apply]
  show IntOp.cmpi .eq (BitVec.ofNat 32 (k 0).val) (BitVec.ofNat 32 (k 1).val) = _
  rw [h0, h1]
  unfold dgM
  show BitVec.ofBool (decide (BitVec.ofNat 32 i.val = BitVec.ofNat 32 j.val)) = _
  refine congrArg BitVec.ofBool (decide_eq_decide.mpr ⟨fun h => Fin.ext ?_, fun h => by rw [h]⟩)
  have h' := congrArg BitVec.toNat h
  have := i.isLt
  have := j.isLt
  simp only [BitVec.toNat_ofNat] at h'
  omega
theorem v15_at : val_main_v15 (F := Ideal) x4 x5 r0 r1 (ix3 g i j)
    = Scalar.select (dgM i j) (-(lgM (Ideal.exp (x4 i0)) (x5 i0) (opd r0) (opd r1) g i j)) (lgM (Ideal.exp (x4 i0)) (x5 i0) (opd r0) (opd r1) g i j) := by
  rw [val_main_v15_apply, val_main_v14_apply, v6_at, val_main_call0_v0_apply, v13_at i j _ rfl rfl]
  rfl
theorem v16_at : val_main_v16 (F := Ideal) x4 x5 r0 r1 (ix3 g i j) = spM (Ideal.exp (x4 i0)) (x5 i0) (opd r0) (opd r1) g i j := by
  unfold spM rSp
  rw [val_main_v16_apply, val_main_call1_v4_apply, val_main_call1_v6_apply, val_main_call1_v11_apply, val_main_call1_v10_apply, val_main_call1_v9_apply, val_main_call1_v8_apply,
    val_main_call1_v7_apply, val_main_call1_v1_apply, val_main_call1_v3_apply, val_main_call1_v0_apply, val_main_call1_v2_apply, val_main_call1_v5_apply, v15_at]
  simp only [val_main_call1_cst_apply, Ideal.ofBits_def, Ideal.ofBits_zero_f32]
  rfl
theorem v29_at : val_main_v29 (F := Ideal) x4 x5 r0 r1 (ix3 g i j) = grM (Ideal.exp (x4 i0)) (x5 i0) (opd r0) (opd r1) g i j * (rcp : EReal) := by
  unfold grM rG rSig
  rw [val_main_v29_apply, val_main_v28_apply, val_main_cst_2_apply, ofBits_rcp, val_main_v27_apply, val_main_v26_apply, val_main_v25_apply, val_main_v24_apply, v13_at i j _ rfl rfl,
    val_main_v23_apply, val_main_v22_apply, val_main_v21_apply, val_main_v20_apply, val_main_v19_apply, val_main_v18_apply, v6_at]
  simp only [val_main_cst_0_apply, val_main_cst_1_apply]
  rw [ofBits_one]
  rfl

/-- The five results. -/
theorem v17_at : val_main_v17 (F := Ideal) x4 x5 r0 r1 (ix2 g i) = lossM (Ideal.exp (x4 i0)) (x5 i0) (opd r0) (opd r1) g i := by
  rw [val_main_v17_apply, val_main_cst_apply, Ideal.ofBits_def, Ideal.ofBits_zero_f32, zero_add]
  exact Finset.sum_congr rfl fun j _ => (congrArg _ (by idx_ext : idx_main_v17 (ix2 g i) j = ix3 g i j)).trans (v16_at x4 x5 r0 r1 g i j)
theorem v31_at : val_main_v31 (F := Ideal) x4 x5 r0 r1 (ix2 g i) = dtM (Ideal.exp (x4 i0)) (x5 i0) (opd r0) (opd r1) g i := by
  rw [val_main_v31_apply, val_main_cst_3_apply, Ideal.ofBits_def, Ideal.ofBits_zero_f32, zero_add]
  refine Finset.sum_congr rfl fun j _ => (congrArg _ (by idx_ext : idx_main_v31 (ix2 g i) j = ix3 g i j)).trans ?_
  rw [val_main_v30_apply, v29_at, v4_at]
  rfl
theorem v32_at : val_main_v32 (F := Ideal) x4 x5 r0 r1 (ix2 g i) = dbM (Ideal.exp (x4 i0)) (x5 i0) (opd r0) (opd r1) g i := by
  rw [val_main_v32_apply, val_main_cst_4_apply, Ideal.ofBits_def, Ideal.ofBits_zero_f32, zero_add]
  exact Finset.sum_congr rfl fun j _ => (congrArg _ (by idx_ext : idx_main_v32 (ix2 g i) j = ix3 g i j)).trans (v29_at x4 x5 r0 r1 g i j)
theorem v37_at : val_main_v37 (F := Ideal) x4 x5 r0 r1 (ix3 g i d) = dxM (Ideal.exp (x4 i0)) (x5 i0) (opd r0) (opd r1) g i d := by
  rw [val_main_v37_apply, val_main_v36_apply, val_main_v35_apply, v1_at, val_main_v34_apply]
  refine congrArg (Ideal.exp (x4 i0) * ·) (Finset.sum_congr rfl fun j _ => ?_)
  rw [show lidx_main_v34 (ix3 g i d) j = ix3 g i j by idx_ext, show ridx_main_v34 (ix3 g i d) j = ix3 g j d by idx_ext, val_main_v33_apply, v29_at]
  rfl
theorem v41_at : val_main_v41 (F := Ideal) x4 x5 r0 r1 (ix3 g j d) = dyM (Ideal.exp (x4 i0)) (x5 i0) (opd r0) (opd r1) g j d := by
  rw [val_main_v41_apply, val_main_v40_apply, val_main_v39_apply, v1_at, val_main_v38_apply]
  refine congrArg (Ideal.exp (x4 i0) * ·) (Finset.sum_congr rfl fun i _ => ?_)
  rw [show lidx_main_v38 (ix3 g j d) i = ix3 g i j by idx_ext, show ridx_main_v38 (ix3 g j d) i = ix3 g i d by idx_ext, val_main_v33_apply, v29_at]
  rfl
end Stages

section Run
variable (m : (ℓ : Loc nD τ sig) → Buf (Elt Ideal) ℓ) (c : Dev nD) (g : Fin 4) (i j : Fin 8192) (d : Fin 1152)

/-- The arguments at their plain types. -/
abbrev aXc : Vec Ideal S4x8192x1152 .fp8e4m3 := m ((c.tc : Thread nD τ).loc main_arg0)
abbrev aXs : Vec Ideal S4x8192x36 .f32 := m ((c.tc : Thread nD τ).loc main_arg1)
abbrev aYc : Vec Ideal S4x8192x1152 .fp8e4m3 := m ((c.tc : Thread nD τ).loc main_arg2)
abbrev aYs : Vec Ideal S4x8192x36 .f32 := m ((c.tc : Thread nD τ).loc main_arg3)
abbrev aT : Vec Ideal S_ .f32 := m ((c.tc : Thread nD τ).loc main_arg4)
abbrev aB : Vec Ideal S_ .f32 := m ((c.tc : Thread nD τ).loc main_arg5)

theorem idx0_0 : ∀ t : Fin cfg0.N, win0_0.index t = ![0, 0, 0] := (by decide +kernel : ∀ t : Fin grid0.N, _)
theorem idx0_1 : ∀ t : Fin cfg0.N, win0_1.index t = ![0, 0, 0] := (by decide +kernel : ∀ t : Fin grid0.N, _)
theorem idx0_2 : ∀ t : Fin cfg0.N, win0_2.index t = ![0, 0, 0] := (by decide +kernel : ∀ t : Fin grid0.N, _)
theorem idx0_3 : ∀ t : Fin cfg0.N, win0_3.index t = ![0, 0, 0] := (by decide +kernel : ∀ t : Fin grid0.N, _)
theorem idx0_4 : ∀ t : Fin cfg0.N, win0_4.index t = ![0, 0, 0] := (by decide +kernel : ∀ t : Fin grid0.N, _)
theorem idx0_5 : ∀ t : Fin cfg0.N, win0_5.index t = ![0, 0, 0] := (by decide +kernel : ∀ t : Fin grid0.N, _)

/-- The one block of every input is its whole array. -/
theorem iblk0_eq (t : Fin cfg0.N) : (iblk m c 0 t : Vec Ideal S4x8192x1152 .fp8e4m3) = aXc m c := by
  funext y
  obtain ⟨a, b, e, rfl⟩ : ∃ (a : Fin 4) (b : Fin 8192) (e : Fin 1152), y = ix3 a b e := ⟨y 0, y 1, y 2, eq_ix3 y⟩
  have he : (win0_0.blk t).view.emb (ix3 a b e) = ix3 a b e := by blk_ext [idx0_0]
  blk_simp [iblk]
  exact congrArg (aXc m c) he
theorem iblk1_eq (t : Fin cfg0.N) : (iblk m c 1 t : Vec Ideal S4x8192x36 .f32) = aXs m c := by
  funext y
  obtain ⟨a, b, e, rfl⟩ : ∃ (a : Fin 4) (b : Fin 8192) (e : Fin 36), y = ix3 a b e := ⟨y 0, y 1, y 2, eq_ix3 y⟩
  have he : (win0_1.blk t).view.emb (ix3 a b e) = ix3 a b e := by blk_ext [idx0_1]
  blk_simp [iblk]
  exact congrArg (aXs m c) he
theorem iblk2_eq (t : Fin cfg0.N) : (iblk m c 2 t : Vec Ideal S4x8192x1152 .fp8e4m3) = aYc m c := by
  funext y
  obtain ⟨a, b, e, rfl⟩ : ∃ (a : Fin 4) (b : Fin 8192) (e : Fin 1152), y = ix3 a b e := ⟨y 0, y 1, y 2, eq_ix3 y⟩
  have he : (win0_2.blk t).view.emb (ix3 a b e) = ix3 a b e := by blk_ext [idx0_2]
  blk_simp [iblk]
  exact congrArg (aYc m c) he
theorem iblk3_eq (t : Fin cfg0.N) : (iblk m c 3 t : Vec Ideal S4x8192x36 .f32) = aYs m c := by
  funext y
  obtain ⟨a, b, e, rfl⟩ : ∃ (a : Fin 4) (b : Fin 8192) (e : Fin 36), y = ix3 a b e := ⟨y 0, y 1, y 2, eq_ix3 y⟩
  have he : (win0_3.blk t).view.emb (ix3 a b e) = ix3 a b e := by blk_ext [idx0_3]
  blk_simp [iblk]
  exact congrArg (aYs m c) he

/-- The widening call leaves x -/
theorem reg0 : (Value.reg_main_v0_0 m c : Vec Ideal S4x8192x1152 .bf16) = wid (aXc m c) (aXs m c) := by
  unfold Value.reg_main_v0_0
  refine (dats m 0 c).arrAt_eq_of_covers 4 _ (by decide +kernel) fun t hf y => ?_
  obtain ⟨a, b, e, rfl⟩ : ∃ (a : Fin 4) (b : Fin 8192) (e : Fin 1152), y = ix3 a b e := ⟨y 0, y 1, y 2, eq_ix3 y⟩
  have he : (win0_4.blk t).view.emb (ix3 a b e) = ix3 a b e := by blk_ext [idx0_4]
  blk_simp
  rw [after0_4, out4_eq, iblk0_eq, iblk1_eq]
  exact (congrArg (wid (aXc m c) (aXs m c)) he).symm
/-- and y, every code times the scale of its group. -/
theorem reg1 : (Value.reg_main_v0_1 m c : Vec Ideal S4x8192x1152 .bf16) = wid (aYc m c) (aYs m c) := by
  unfold Value.reg_main_v0_1
  refine (dats m 0 c).arrAt_eq_of_covers 5 _ (by decide +kernel) fun t hf y => ?_
  obtain ⟨a, b, e, rfl⟩ : ∃ (a : Fin 4) (b : Fin 8192) (e : Fin 1152), y = ix3 a b e := ⟨y 0, y 1, y 2, eq_ix3 y⟩
  have he : (win0_5.blk t).view.emb (ix3 a b e) = ix3 a b e := by blk_ext [idx0_5]
  blk_simp
  rw [after0_5, out5_eq, iblk2_eq, iblk3_eq]
  exact (congrArg (wid (aYc m c) (aYs m c)) he).symm

/-- The operands and the parameters of the mathematics. -/
def mX (g : Fin 4) (i : Fin 8192) (d : Fin 1152) : EReal := aXc m c (ix3 g i d) * aXs m c (ix3 g i (grp d))
def mY (g : Fin 4) (i : Fin 8192) (d : Fin 1152) : EReal := aYc m c (ix3 g i d) * aYs m c (ix3 g i (grp d))
def mT : EReal := Ideal.exp (aT m c i0)
def mB : EReal := aB m c i0

theorem opd0 : opd (Value.reg_main_v0_0 m c) = mX m c := by
  rw [reg0]; rfl
theorem opd1 : opd (Value.reg_main_v0_1 m c) = mY m c := by
  rw [reg1]; rfl

/-- Every run of the reference ends with the five results below and its arguments unchanged. -/
theorem run (ρ : Dev nD → PrngReg) :
    θ_run defs (onTc (τ := τ) (main (F := Ideal))) ⟨m, fun _ => 0, ρ⟩ fun r => ∀ c : Dev nD,
      (∀ g i, (r.2.mem ((c.tc : Thread nD τ).loc main_v17) : Vec Ideal S4x8192 .f32) (ix2 g i) = lossM (mT m c) (mB m c) (mX m c) (mY m c) g i)
      ∧ (∀ g i d, (r.2.mem ((c.tc : Thread nD τ).loc main_v37) : Vec Ideal S4x8192x1152 .bf16) (ix3 g i d) = dxM (mT m c) (mB m c) (mX m c) (mY m c) g i d)
      ∧ (∀ g j d, (r.2.mem ((c.tc : Thread nD τ).loc main_v41) : Vec Ideal S4x8192x1152 .bf16) (ix3 g j d) = dyM (mT m c) (mB m c) (mX m c) (mY m c) g j d)
      ∧ (∀ g i, (r.2.mem ((c.tc : Thread nD τ).loc main_v31) : Vec Ideal S4x8192 .f32) (ix2 g i) = dtM (mT m c) (mB m c) (mX m c) (mY m c) g i)
      ∧ (∀ g i, (r.2.mem ((c.tc : Thread nD τ).loc main_v32) : Vec Ideal S4x8192 .f32) (ix2 g i) = dbM (mT m c) (mB m c) (mX m c) (mY m c) g i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h17, h37, h41, h31, h32, hargs⟩ := h c
    rw [val_main_v17_eq, Value.exit_main_arg4, Value.exit_main_arg5, Value.exit_main_v0_0, Value.exit_main_v0_1] at h17
    rw [val_main_v37_eq, Value.exit_main_arg4, Value.exit_main_arg5, Value.exit_main_v0_0, Value.exit_main_v0_1] at h37
    rw [val_main_v41_eq, Value.exit_main_arg4, Value.exit_main_arg5, Value.exit_main_v0_0, Value.exit_main_v0_1] at h41
    rw [val_main_v31_eq, Value.exit_main_arg4, Value.exit_main_arg5, Value.exit_main_v0_0, Value.exit_main_v0_1] at h31
    rw [val_main_v32_eq, Value.exit_main_arg4, Value.exit_main_arg5, Value.exit_main_v0_0, Value.exit_main_v0_1] at h32
    refine ⟨fun g i => ?_, fun g i d => ?_, fun g j d => ?_, fun g i => ?_, fun g i => ?_, hargs⟩
    · rw [h17, v17_at, opd0, opd1]; rfl
    · rw [h37, v37_at, opd0, opd1]; rfl
    · rw [h41, v41_at, opd0, opd1]; rfl
    · rw [h31, v31_at, opd0, opd1]; rfl
    · rw [h32, v32_at, opd0, opd1]; rfl) (Value.run m ρ)

end Run

end Cert.ReferenceIdeal.Hand
-- ==== Proof.KernelIdeal.Tile.lean ====
/-
  One point of the main pallas_call over the extended reals, read at its indices: the logits of a tile, the diagonal's mask, the gradient
  of the logits, and the steps of the five accumulators.
-/
module

public import proofs.«01_k».proof.Proof.KernelIdeal.MainVals
public import proofs.«01_k».proof.Proof.Scalar
public import Idealize.ShloMosaic.Lib.Pointwise
public import Idealize.ShloMosaic.PureOps.IdealRules

@[expose] public section

set_option maxRecDepth 16384

noncomputable section

namespace Cert.KernelIdeal.Hand

open Cert.KernelIdeal Cert.KernelIdeal.Gen
open Idealize.ShloMosaic
open Siglip
open scoped BigOperators

/-- The named constants' values. -/
theorem named_log2e : (Named.named (F := Ideal) κ "log2e" (φ := .f32) 0x3FB8AA3B#32 : EReal) = cL2E :=
  IdealRules.named_const.ideal_named_scalar _ _ _ _ rfl
theorem named_neg_log2e : (Named.named (F := Ideal) κ "neg_log2e" (φ := .f32) 0xBFB8AA3B#32 : EReal) = cNL2E :=
  IdealRules.named_const.ideal_named_scalar _ _ _ _ rfl
theorem named_ln2 : (Named.named (F := Ideal) κ "ln2" (φ := .f32) 0x3F317218#32 : EReal) = cLN2 :=
  IdealRules.named_const.ideal_named_scalar _ _ _ _ rfl

variable (i : grid2.Coords) (P : Vec Ideal S3 .f32) (X : Vec Ideal S1x1152x1024 .bf16) (Y : Vec Ideal S1x512x1152 .bf16) (YT : Vec Ideal S1x1152x512 .bf16)

/-- The parameters: temperature, bias, reciprocal of the sequence's length. -/
theorem par0_apply : par0 (F := Ideal) P = P (ix1 0) := by
  unfold par0
  pointwise []
theorem par1_apply : par1 (F := Ideal) P = P (ix1 1) := by
  unfold par1
  pointwise []
theorem par2_apply : par2 (F := Ideal) P = P (ix1 2) := by
  unfold par2
  pointwise []

/-- The temperature times the product of row `r` of the block of y and column `c` of the block of transposed x. -/
def tdT (r : Fin 512) (c : Fin 1024) : EReal := P (ix1 0) * (∑ d : Fin 1152, Y (ix3 0 r d) * X (ix3 0 d c))
/-- The logit at row `r` and column `c` of the point's tile. -/
def lgT (r : Fin 512) (c : Fin 1024) : EReal := tdT P X Y r c + P (ix1 1)
/-- Whether row `r` and column `c` of the point's tile are one position of the sequence. -/
def dgT (r : Fin 512) (c : Fin 1024) : BitVec 1 := BitVec.ofBool (decide ((i 1).val * 1024 + c.val = (i 2).val * 512 + r.val))
/-- The gradient of the logits at row `r` and column `c` of the point's tile. -/
def gT (r : Fin 512) (c : Fin 1024) : EReal := kG (dgT i r c) (lgT P X Y r c)
/-- The log-loss term at row `r` and column `c` of the point's tile. -/
def spT (r : Fin 512) (c : Fin 1024) : EReal := kSp (dgT i r c) (lgT P X Y r c)

/-- Row `r` of the first half of the block, and of the last. -/
abbrev lo (r : Fin 256) : Fin 512 := ⟨r.val, by omega⟩
abbrev hi (r : Fin 256) : Fin 512 := ⟨256 + r.val, by omega⟩
/-- Row `s` of the group `a` of 8 rows. -/
abbrev sub (a : Fin 32) (s : Fin 8) : Fin 256 := ⟨a.val * 8 + s.val, by omega⟩

theorem pay11A (r : Fin 256) (c : Fin 1024) : k2_pay11 (F := Ideal) (par0 P) (View.ld Y rY0) X (ix2 r c) = tdT P X Y (lo r) c := by
  unfold tdT; rw [par0_apply]; pointwise [k2_pay11]
theorem pay24B (r : Fin 256) (c : Fin 1024) : k2_pay24 (F := Ideal) (par0 P) (View.ld Y rY1) X (ix2 r c) = tdT P X Y (hi r) c := by
  unfold tdT; rw [par0_apply]; pointwise [k2_pay24]
theorem pay12A (r : Fin 256) (c : Fin 1024) : k2_pay12 (F := Ideal) (par0 P) (par1 P) (View.ld Y rY0) X (ix2 r c) = lgT P X Y (lo r) c := by
  unfold lgT; rw [← pay11A, par1_apply]; pointwise [k2_pay12]
theorem pay25B (r : Fin 256) (c : Fin 1024) : k2_pay25 (F := Ideal) (par0 P) (par1 P) (View.ld Y rY1) X (ix2 r c) = lgT P X Y (hi r) c := by
  unfold lgT; rw [← pay24B, par1_apply]; pointwise [k2_pay25]

theorem pay14A (r : Fin 256) (c : Fin 1024) : k2_pay14 (F := Ideal) (par0 P) (par1 P) (View.ld Y rY0) X (ix2 r c) = ke (lgT P X Y (lo r) c) := by
  rw [← pay12A]; pointwise [k2_pay14, named_neg_log2e]; rfl
theorem pay27B (r : Fin 256) (c : Fin 1024) : k2_pay27 (F := Ideal) (par0 P) (par1 P) (View.ld Y rY1) X (ix2 r c) = ke (lgT P X Y (hi r) c) := by
  rw [← pay25B]; pointwise [k2_pay27, named_neg_log2e]; rfl
theorem pay15A (r : Fin 256) (c : Fin 1024) : k2_pay15 (F := Ideal) (par0 P) (par1 P) (View.ld Y rY0) X (ix2 r c) = 1 + ke (lgT P X Y (lo r) c) := by
  rw [← pay14A]; pointwise [k2_pay15]
theorem pay28B (r : Fin 256) (c : Fin 1024) : k2_pay28 (F := Ideal) (par0 P) (par1 P) (View.ld Y rY1) X (ix2 r c) = 1 + ke (lgT P X Y (hi r) c) := by
  rw [← pay27B]; pointwise [k2_pay28]
theorem pay16A (r : Fin 256) (c : Fin 1024) : k2_pay16 (F := Ideal) (par0 P) (par1 P) (View.ld Y rY0) X (ix2 r c) = Ideal.div 1 (1 + ke (lgT P X Y (lo r) c)) := by
  rw [← pay15A]; pointwise [k2_pay16]

/-- The kernel's test for the diagonal, in words, is the test in numbers. -/
theorem diag_words (a b : ℕ) (ha : a < 8) (hb : b < 16) (k r c : ℕ) (hk : k ≤ 256) (hr : r < 256) (hc : c < 1024) :
    IntOp.cmpi CmpIPredicate.eq (IntOp.subi (BitVec.ofNat 32 c) (BitVec.ofNat 32 r))
      (Scalar.subi (Scalar.addi (Scalar.muli (BitVec.ofNat 32 b) 512#32) (BitVec.ofNat 32 k)) (Scalar.muli (BitVec.ofNat 32 a) 1024#32))
      = BitVec.ofBool (decide (a * 1024 + c = b * 512 + (k + r))) := by
  show BitVec.ofBool (decide _) = _
  congr 1
  apply decide_eq_decide.mpr
  show (BitVec.ofNat 32 c - BitVec.ofNat 32 r) = ((BitVec.ofNat 32 b * 512#32 + BitVec.ofNat 32 k) - BitVec.ofNat 32 a * 1024#32) ↔ _
  rw [← BitVec.toNat_inj]
  simp only [BitVec.toNat_sub, BitVec.toNat_add, BitVec.toNat_mul, BitVec.toNat_ofNat]
  omega

theorem pay13_apply (r : Fin 256) (c : Fin 1024) : k2_pay13 i (ix2 r c) = dgT i (lo r) c := by
  have h := diag_words (i 1).val (i 2).val (i 1).isLt (i 2).isLt 0 r.val c.val (by omega) r.isLt c.isLt
  rw [Nat.zero_add] at h
  unfold dgT
  rw [← h]
  pointwise [k2_pay13]
theorem diagB_apply (r : Fin 256) (c : Fin 1024) : diagB i (ix2 r c) = dgT i (hi r) c := by
  have h := diag_words (i 1).val (i 2).val (i 1).isLt (i 2).isLt 256 r.val c.val (by omega) r.isLt c.isLt
  unfold dgT
  rw [← h]
  unfold diagB
  pointwise [k2_pay26]

theorem pay17_gen (lg e q : FVec Ideal S256x1024 .f32) (dg : IVec S256x1024 1) (r : Fin 256) (c : Fin 1024) (x : EReal) (d : BitVec 1)
    (hl : lg (ix2 r c) = x) (he : e (ix2 r c) = ke x) (hq : q (ix2 r c) = Ideal.div 1 (1 + ke x)) (hd : dg (ix2 r c) = d) :
    k2_pay17 (F := Ideal) lg dg e q (ix2 r c) = kG d x := by
  unfold kG kSig
  rw [← hq, ← he, ← hd, ← hl]
  pointwise [k2_pay17]
theorem pay29_gen (lg e u : FVec Ideal S256x1024 .f32) (dg : IVec S256x1024 1) (r : Fin 256) (c : Fin 1024) (x : EReal) (d : BitVec 1)
    (hl : lg (ix2 r c) = x) (he : e (ix2 r c) = ke x) (hu : u (ix2 r c) = 1 + ke x) (hd : dg (ix2 r c) = d) :
    k2_pay29 (F := Ideal) lg dg e u (Scalar.ofBits .f32 0x3F800000#32) (ix2 r c) = kG d x := by
  unfold kG kSig
  rw [← hu, ← he, ← hd, ← hl]
  pointwise [k2_pay29]

theorem pay17A (r : Fin 256) (c : Fin 1024) :
    k2_pay17 (k2_pay12 (F := Ideal) (par0 P) (par1 P) (View.ld Y rY0) X) (k2_pay13 i) (k2_pay14 (par0 P) (par1 P) (View.ld Y rY0) X) (k2_pay16 (par0 P) (par1 P) (View.ld Y rY0) X) (ix2 r c)
      = gT i P X Y (lo r) c :=
  pay17_gen _ _ _ _ r c _ _ (pay12A P X Y r c) (pay14A P X Y r c) (pay16A P X Y r c) (pay13_apply i r c)
theorem pay29B (r : Fin 256) (c : Fin 1024) :
    k2_pay29 (k2_pay25 (F := Ideal) (par0 P) (par1 P) (View.ld Y rY1) X) (diagB i) (k2_pay27 (par0 P) (par1 P) (View.ld Y rY1) X) (k2_pay28 (par0 P) (par1 P) (View.ld Y rY1) X) (Scalar.ofBits .f32 0x3F800000#32) (ix2 r c)
      = gT i P X Y (hi r) c :=
  pay29_gen _ _ _ _ r c _ _ (pay25B P X Y r c) (pay27B P X Y r c) (pay28B P X Y r c) (diagB_apply i r c)

/-- The same, the constant one written as a number. -/
theorem pay29B' (r : Fin 256) (c : Fin 1024) :
    k2_pay29 (k2_pay25 (F := Ideal) (par0 P) (par1 P) (View.ld Y rY1) X) (diagB i) (k2_pay27 (par0 P) (par1 P) (View.ld Y rY1) X) (k2_pay28 (par0 P) (par1 P) (View.ld Y rY1) X) (1 : EReal) (ix2 r c)
      = gT i P X Y (hi r) c := by
  rw [← pay29B]
  congr 1
  exact Ideal.ofBits_one_f32.symm

theorem gA_apply (r : Fin 256) (c : Fin 1024) : gA (F := Ideal) i P X Y (ix2 r c) = gT i P X Y (lo r) c := by
  rw [← pay17A]; unfold gA; pointwise [k2_pay18]
theorem gB_apply (r : Fin 256) (c : Fin 1024) : gB (F := Ideal) i P X Y (ix2 r c) = gT i P X Y (hi r) c := by
  rw [← pay29B]; unfold gB; pointwise [k2_pay30]

/-- The gradient of the logits the point stores, both halves. -/
theorem gM_apply (r : Fin 512) (c : Fin 1024) : gM (F := Ideal) i P X Y (ix2 r c) = gT i P X Y r c := by
  unfold gM
  by_cases h : r.val < 256
  · have hr : r = lo ⟨r.val, h⟩ := rfl
    rw [View.canon_cons_of_not_mem, hr, ← gA_apply]
    · have e : (ix2 (lo ⟨r.val, h⟩) c : S512x1024.Idx) = rG0.emb (ix2 ⟨r.val, h⟩ c : S256x1024.Idx) := by
        funext a; apply Fin.ext; match a with
        | ⟨0, _⟩ => show r.val = 0 + 1 * r.val; omega
        | ⟨1, _⟩ => show c.val = 0 + 1 * c.val; omega
      rw [e]
      exact View.canon_cons_emb rG0 _ _ _
    · intro hm
      have hm' : (ix2 r c : S512x1024.Idx) ∈ rG1.set := hm
      have h0 : 256 ≤ r.val := ((Rect.mem_set_unit.mp hm') 0).1
      omega
  · have hb : r.val - 256 < 256 := by omega
    have hr : r = hi ⟨r.val - 256, hb⟩ := Fin.ext (by show r.val = 256 + (r.val - 256); omega)
    rw [hr, ← gB_apply]
    have e : (ix2 (hi ⟨r.val - 256, hb⟩) c : S512x1024.Idx) = rG1.emb (ix2 ⟨r.val - 256, hb⟩ c : S256x1024.Idx) := by
      funext a; apply Fin.ext; match a with
      | ⟨0, _⟩ => show 256 + (r.val - 256) = 256 + 1 * (r.val - 256); omega
      | ⟨1, _⟩ => show c.val = 0 + 1 * c.val; omega
    rw [e]
    exact View.canon_cons_emb rG1 _ _ _

/-! ## The accumulators' steps -/

theorem s0A_apply (a : Vec Ideal S1x8x1024 .f32) (s : Fin 8) (c : Fin 1024) :
    s0A (F := Ideal) i P X Y a (ix3 0 s c) = a (ix3 0 s c) + ∑ q : Fin 32, spT i P X Y (lo (sub q s)) c := by
  unfold s0A spT kSp
  pointwise [k2_pay19, named_log2e, named_ln2, pay12A, pay13_apply, pay14A, pay15A]
theorem s0B_apply (a : Vec Ideal S1x8x1024 .f32) (s : Fin 8) (c : Fin 1024) :
    s0B (F := Ideal) i P X Y a (ix3 0 s c) = a (ix3 0 s c) + ∑ q : Fin 32, spT i P X Y (hi (sub q s)) c := by
  unfold s0B spT kSp
  pointwise [k2_pay31, named_log2e, named_ln2, pay25B, diagB_apply, pay27B, pay28B]
theorem s1A_apply (a : Vec Ideal S1x8x1024 .f32) (s : Fin 8) (c : Fin 1024) :
    s1A (F := Ideal) i P X Y a (ix3 0 s c) = a (ix3 0 s c) + ∑ q : Fin 32, gT i P X Y (lo (sub q s)) c * tdT P X Y (lo (sub q s)) c := by
  unfold s1A
  pointwise [k2_pay22, k2_pay20, k2_pay21, pay17A, pay11A]
theorem s1B_apply (a : Vec Ideal S1x8x1024 .f32) (s : Fin 8) (c : Fin 1024) :
    s1B (F := Ideal) i P X Y a (ix3 0 s c) = a (ix3 0 s c) + ∑ q : Fin 32, gT i P X Y (hi (sub q s)) c * tdT P X Y (hi (sub q s)) c := by
  unfold s1B
  pointwise [k2_pay34, k2_pay32, k2_pay33, pay29B', pay24B]
theorem s2A_apply (a : Vec Ideal S1x8x1024 .f32) (s : Fin 8) (c : Fin 1024) :
    s2A (F := Ideal) i P X Y a (ix3 0 s c) = a (ix3 0 s c) + ∑ q : Fin 32, gT i P X Y (lo (sub q s)) c := by
  unfold s2A
  pointwise [k2_pay23, pay17A]
theorem s2B_apply (a : Vec Ideal S1x8x1024 .f32) (s : Fin 8) (c : Fin 1024) :
    s2B (F := Ideal) i P X Y a (ix3 0 s c) = a (ix3 0 s c) + ∑ q : Fin 32, gT i P X Y (hi (sub q s)) c := by
  unfold s2B
  pointwise [k2_pay35, pay29B']
theorem dxStep_apply (d : Vec Ideal S1152x1024 .f32) (e : Fin 1152) (c : Fin 1024) :
    dxStep (F := Ideal) i P X Y YT d (ix2 e c) = d (ix2 e c) + ∑ r : Fin 512, YT (ix3 0 e r) * gT i P X Y r c := by
  unfold dxStep
  pointwise [k2_pay36, gM_apply]
theorem dyStep_apply (d : Vec Ideal S1x1152x512 .f32) (e : Fin 1152) (r : Fin 512) :
    dyStep (F := Ideal) i P X Y d (ix3 0 e r) = d (ix3 0 e r) + ∑ c : Fin 1024, X (ix3 0 e c) * gT i P X Y r c := by
  unfold dyStep
  pointwise [k2_pay37, k2_pay1, gM_apply]

/-! ## The outputs, from the accumulators -/

theorem outDx_apply (d : Vec Ideal S1152x1024 .f32) (c : Fin 1024) (e : Fin 1152) :
    outDx (F := Ideal) P d (ix3 0 c e) = P (ix1 0) * P (ix1 2) * d (ix2 e c) := by
  unfold outDx
  rw [par0_apply, par2_apply]
  pointwise [k2_pay4]
theorem outDy_apply (d : Vec Ideal S1x1152x512 .f32) (r : Fin 512) (e : Fin 1152) :
    outDy (F := Ideal) P d (ix3 0 r e) = P (ix1 0) * P (ix1 2) * d (ix3 0 e r) := by
  unfold outDy
  rw [par0_apply, par2_apply]
  pointwise [k2_pay3]
theorem outLoss_apply (a : Vec Ideal S1x8x1024 .f32) (c : Fin 1024) : outLoss (F := Ideal) a (ix3 0 0 c) = ∑ s : Fin 8, a (ix3 0 s c) := by
  unfold outLoss
  pointwise [k2_pay5]
theorem outDt_apply (a : Vec Ideal S1x8x1024 .f32) (c : Fin 1024) : outDt (F := Ideal) P a (ix3 0 0 c) = (∑ s : Fin 8, a (ix3 0 s c)) * P (ix1 2) := by
  unfold outDt
  rw [par2_apply]
  pointwise [k2_pay6]
theorem outDb_apply (a : Vec Ideal S1x8x1024 .f32) (c : Fin 1024) : outDb (F := Ideal) P a (ix3 0 0 c) = (∑ s : Fin 8, a (ix3 0 s c)) * P (ix1 2) := by
  unfold outDb
  rw [par2_apply]
  pointwise [k2_pay2, k2_pay7]

/-- The zeros the accumulators are reset to. -/
theorem zeroDx_apply (j : S1152x1024.Idx) : k2_pay8 (F := Ideal) j = 0 := by
  pointwise [k2_pay8]
theorem zeroDy_apply (j : S1x1152x512.Idx) : k2_pay10 (F := Ideal) j = 0 := by
  pointwise [k2_pay10]
theorem zeroS_apply (j : S3x8x1024.Idx) : k2_pay9 (F := Ideal) j = 0 := by
  pointwise [k2_pay9]

end Cert.KernelIdeal.Hand
-- ==== Proof.KernelIdeal.Blocks.lean ====
/-
  The blocks the three pallas_calls read, at coordinates of their arrays.
-/
module

public import proofs.«01_k».proof.Proof.KernelIdeal.Main
public import proofs.«01_k».proof.Proof.KernelIdeal.Tile
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe
open Siglip
open scoped BigOperators

/-- A coordinate below `n`, from any number. -/
abbrev md (n : ℕ) (h : 0 < n) (k : ℕ) : Fin n := ⟨k % n, Nat.mod_lt k h⟩
/-- A batch member and a position of the sequence, from any number. -/
abbrev bt (g : ℕ) : Fin 4 := md 4 (by decide) g
abbrev sq (j : ℕ) : Fin 8192 := md 8192 (by decide) j

namespace R2

variable (V : Dev nD → Valuation τ sig (Elt Ideal)) (c : Dev nD)

theorem idx2_0 : ∀ t : Fin cfg2.N, win2_0.index t = ![0] := (by decide +kernel : ∀ t : Fin grid2.N, _)
theorem idx2_1 : ∀ t : Fin cfg2.N, win2_1.index t = ![t.val / 128, 0, t.val / 16 % 8] := (by decide +kernel : ∀ t : Fin grid2.N, _)
theorem idx2_2 : ∀ t : Fin cfg2.N, win2_2.index t = ![t.val / 128, t.val % 16, 0] := (by decide +kernel : ∀ t : Fin grid2.N, _)
theorem idx2_3 : ∀ t : Fin cfg2.N, win2_3.index t = ![t.val / 128, 0, t.val % 16] := (by decide +kernel : ∀ t : Fin grid2.N, _)

theorem t_lt (t : Fin cfg2.N) : t.val < 512 := lt_of_lt_of_eq (show t.val < grid2.N from t.isLt) N_2

theorem iblk0_apply (t : Fin cfg2.N) (k : Fin 3) : (iblk V c 0 t : Vec Ideal S3 .f32) (ix1 k) = V c main_v6 (ix1 k) := by
  blk_simp [iblk]
  congr 1
  blk_ext [idx2_0]
theorem iblk1_apply (t : Fin cfg2.N) (d : Fin 1152) (k : Fin 1024) :
    (iblk V c 1 t : Vec Ideal S1x1152x1024 .bf16) (ix3 0 d k) = V c main_v0 (ix3 (bt (t.val / 128)) d (sq (t.val / 16 % 8 * 1024 + k.val))) := by
  have := t_lt t
  blk_simp [iblk]
  congr 1
  blk_ext [idx2_1]
theorem iblk2_apply (t : Fin cfg2.N) (r : Fin 512) (d : Fin 1152) :
    (iblk V c 2 t : Vec Ideal S1x512x1152 .bf16) (ix3 0 r d) = V c main_v1_0 (ix3 (bt (t.val / 128)) (sq (t.val % 16 * 512 + r.val)) d) := by
  have := t_lt t
  blk_simp [iblk]
  congr 1
  blk_ext [idx2_2]
theorem iblk3_apply (t : Fin cfg2.N) (d : Fin 1152) (r : Fin 512) :
    (iblk V c 3 t : Vec Ideal S1x1152x512 .bf16) (ix3 0 d r) = V c main_v1_1 (ix3 (bt (t.val / 128)) d (sq (t.val % 16 * 512 + r.val))) := by
  have := t_lt t
  blk_simp [iblk]
  congr 1
  blk_ext [idx2_3]

end R2

end Cert.KernelIdeal.Hand
-- ==== Proof.KernelIdeal.Accum.lean ====
/-
  What the main pallas_call's accumulators hold and what its result arrays end holding, over the extended reals, from
  the arrays it is entered with: xA (transposed), yA, their products, and the three parameters.
-/
module

public import proofs.«01_k».proof.Proof.KernelIdeal.Blocks

@[expose] public section

set_option maxRecDepth 16384

noncomputable section

namespace Cert.KernelIdeal.Hand

open Cert.KernelIdeal Cert.KernelIdeal.Gen
open Idealize.ShloMosaic Idealize.ShloMosaic.TcCoe
open Siglip
open scoped BigOperators

namespace R2

variable (V : Dev nD → Valuation τ sig (Elt Ideal)) (c : Dev nD)

/-- The arrays the call reads: the parameters, -/
def pA (k : Fin 3) : EReal := (V c main_v6 : Vec Ideal S3 .f32) (ix1 k)
/-- transposed x, y and transposed y. -/
def xA (g : ℕ) (d : Fin 1152) (i : ℕ) : EReal := (V c main_v0 : Vec Ideal S4x1152x8192 .bf16) (ix3 (bt g) d (sq i))
def yA (g : ℕ) (j : ℕ) (d : Fin 1152) : EReal := (V c main_v1_0 : Vec Ideal S4x8192x1152 .bf16) (ix3 (bt g) (sq j) d)
def ytA (g : ℕ) (d : Fin 1152) (j : ℕ) : EReal := (V c main_v1_1 : Vec Ideal S4x1152x8192 .bf16) (ix3 (bt g) d (sq j))

/-- Temperature times the product of row `j` of y and row `i` of x, -/
def td (g j i : ℕ) : EReal := pA V c 0 * (∑ d : Fin 1152, yA V c g j d * xA V c g d i)
/-- the logit, -/
def lg (g j i : ℕ) : EReal := td V c g j i + pA V c 1
/-- whether the two positions are one, -/
def dg (j i : ℕ) : BitVec 1 := BitVec.ofBool (decide (i = j))
/-- the gradient of the logit, -/
def gg (g j i : ℕ) : EReal := kG (dg j i) (lg V c g j i)
/-- and its log-loss term. -/
def sp (g j i : ℕ) : EReal := kSp (dg j i) (lg V c g j i)

section Tile
variable (t : Fin cfg2.N) (r : Fin 512) (k : Fin 1024)

/-- A tile's entries are the arrays' entries at the tile's coordinates. -/
theorem tdT_eq : tdT (iblk V c 0 t) (iblk V c 1 t) (iblk V c 2 t) r k = td V c (t.val / 128) (t.val % 16 * 512 + r.val) (t.val / 16 % 8 * 1024 + k.val) := by
  unfold tdT td pA xA yA
  rw [iblk0_apply]
  congr 1
  refine Finset.sum_congr rfl fun d _ => ?_
  rw [iblk2_apply, iblk1_apply]
theorem lgT_eq : lgT (iblk V c 0 t) (iblk V c 1 t) (iblk V c 2 t) r k = lg V c (t.val / 128) (t.val % 16 * 512 + r.val) (t.val / 16 % 8 * 1024 + k.val) := by
  unfold lgT lg
  rw [tdT_eq, iblk0_apply]
  rfl
theorem dgT_eq : dgT (grid2.coords t) r k = dg (t.val % 16 * 512 + r.val) (t.val / 16 % 8 * 1024 + k.val) := by
  unfold dgT dg
  rw [coord1, coord2]
theorem gT_eq : gT (grid2.coords t) (iblk V c 0 t) (iblk V c 1 t) (iblk V c 2 t) r k = gg V c (t.val / 128) (t.val % 16 * 512 + r.val) (t.val / 16 % 8 * 1024 + k.val) := by
  unfold gT gg
  rw [dgT_eq, lgT_eq]
theorem spT_eq : spT (grid2.coords t) (iblk V c 0 t) (iblk V c 1 t) (iblk V c 2 t) r k = sp V c (t.val / 128) (t.val % 16 * 512 + r.val) (t.val / 16 % 8 * 1024 + k.val) := by
  unfold spT sp
  rw [dgT_eq, lgT_eq]
end Tile

/-- A sequence that restarts from `0` at the first of every 16 steps and adds a term at each: its value is the sum of the terms since. -/
theorem restart16 (A : ℕ → EReal) (T : ℕ → ℕ → EReal) (q : ℕ) (h : ∀ j, j < 16 → A (16 * q + j + 1) = (if j = 0 then 0 else A (16 * q + j)) + T q j) :
    ∀ j, j < 16 → A (16 * q + j + 1) = ∑ k ∈ Finset.range (j + 1), T q k := by
  intro j
  induction j with
  | zero => intro hj; rw [h 0 hj, if_pos rfl, zero_add]; simp
  | succ j ih =>
    intro hj
    rw [h (j + 1) hj, if_neg (Nat.succ_ne_zero j), Finset.sum_range_succ, ← ih (by omega)]
    rfl
/-- The same at every 8 steps. -/
theorem restart8 (A : ℕ → EReal) (T : ℕ → ℕ → EReal) (q : ℕ) (h : ∀ j, j < 8 → A (8 * q + j + 1) = (if j = 0 then 0 else A (8 * q + j)) + T q j) :
    ∀ j, j < 8 → A (8 * q + j + 1) = ∑ k ∈ Finset.range (j + 1), T q k := by
  intro j
  induction j with
  | zero => intro hj; rw [h 0 hj, if_pos rfl, zero_add]; simp
  | succ j ih =>
    intro hj
    rw [h (j + 1) hj, if_neg (Nat.succ_ne_zero j), Finset.sum_range_succ, ← ih (by omega)]
    rfl

theorem ix_val' {n : ℕ} (h : n < 512) : (ix n).val = n := Nat.mod_eq_of_lt h

/-- The two halves of 32 groups of 8 rows, added one after the other. -/
theorem halves (a : EReal) (f : ℕ → EReal) (b s : ℕ) :
    a + ∑ q : Fin 32, f (b + (q.val * 8 + s)) + ∑ q : Fin 32, f (b + (256 + (q.val * 8 + s)))
      = a + ∑ k ∈ Finset.range 2, ∑ q ∈ Finset.range 32, f (b + k * 256 + (q * 8 + s)) := by
  rw [Fin.sum_univ_eq_sum_range (fun q => f (b + (q * 8 + s))) 32, Fin.sum_univ_eq_sum_range (fun q => f (b + (256 + (q * 8 + s)))) 32,
    Finset.sum_range_succ _ 1, Finset.sum_range_one, add_assoc]
  congr 2
  · exact Finset.sum_congr rfl fun q _ => by congr 1; omega

theorem iblk3_ytA (t : Fin cfg2.N) (d : Fin 1152) (r : Fin 512) : iblk V c 3 t (ix3 0 d r) = ytA V c (t.val / 128) d (t.val % 16 * 512 + r.val) := iblk3_apply V c t d r
theorem iblk1_xA (t : Fin cfg2.N) (d : Fin 1152) (k : Fin 1024) : iblk V c 1 t (ix3 0 d k) = xA V c (t.val / 128) d (t.val / 16 % 8 * 1024 + k.val) := iblk1_apply V c t d k

section Sums
variable (q : ℕ) (hq : q < 32) (s : Fin 8) (k : Fin 1024)

/-- The coordinates of point `16 q + j`. -/
theorem crd (hq : q < 32) {j : ℕ} (hj : j < 16) : (ix (16 * q + j)).val / 128 = q / 8 ∧ (ix (16 * q + j)).val % 16 = j ∧ (ix (16 * q + j)).val / 16 % 8 = q % 8 := by
  rw [ix_val' (by omega)]
  omega

include hq in
theorem S0V_step (j : ℕ) (hj : j < 16) : S0V V c (16 * q + j + 1) (ix3 0 s k) = (if j = 0 then 0 else S0V V c (16 * q + j) (ix3 0 s k))
    + ∑ h ∈ Finset.range 2, ∑ a ∈ Finset.range 32, sp V c (q / 8) (j * 512 + h * 256 + (a * 8 + s.val)) (q % 8 * 1024 + k.val) := by
  obtain ⟨e0, e1, e2⟩ := crd q hq hj
  show s0Next _ _ _ _ _ _ = _
  unfold s0Next
  rw [s0B_apply, s0A_apply]
  simp only [spT_eq, e0, e1, e2]
  rw [halves _ fun n => sp V c (q / 8) n (q % 8 * 1024 + k.val)]
  congr 1
  by_cases h : j = 0
  · rw [if_pos ((cond1_iff _).mpr (by rw [e1]; exact h)), if_pos h]
    exact zeroS_apply _
  · rw [if_neg (fun h' => h (by rw [← e1]; exact (cond1_iff _).mp h')), if_neg h]
include hq in
theorem S1V_step (j : ℕ) (hj : j < 16) : S1V V c (16 * q + j + 1) (ix3 0 s k) = (if j = 0 then 0 else S1V V c (16 * q + j) (ix3 0 s k))
    + ∑ h ∈ Finset.range 2, ∑ a ∈ Finset.range 32, (fun n => gg V c (q / 8) n (q % 8 * 1024 + k.val) * td V c (q / 8) n (q % 8 * 1024 + k.val)) (j * 512 + h * 256 + (a * 8 + s.val)) := by
  obtain ⟨e0, e1, e2⟩ := crd q hq hj
  show s1Next _ _ _ _ _ _ = _
  unfold s1Next
  rw [s1B_apply, s1A_apply]
  simp only [gT_eq, tdT_eq, e0, e1, e2]
  rw [halves _ fun n => gg V c (q / 8) n (q % 8 * 1024 + k.val) * td V c (q / 8) n (q % 8 * 1024 + k.val)]
  congr 1
  by_cases h : j = 0
  · rw [if_pos ((cond1_iff _).mpr (by rw [e1]; exact h)), if_pos h]
    exact zeroS_apply _
  · rw [if_neg (fun h' => h (by rw [← e1]; exact (cond1_iff _).mp h')), if_neg h]
include hq in
theorem S2V_step (j : ℕ) (hj : j < 16) : S2V V c (16 * q + j + 1) (ix3 0 s k) = (if j = 0 then 0 else S2V V c (16 * q + j) (ix3 0 s k))
    + ∑ h ∈ Finset.range 2, ∑ a ∈ Finset.range 32, gg V c (q / 8) (j * 512 + h * 256 + (a * 8 + s.val)) (q % 8 * 1024 + k.val) := by
  obtain ⟨e0, e1, e2⟩ := crd q hq hj
  show s2Next _ _ _ _ _ _ = _
  unfold s2Next
  rw [s2B_apply, s2A_apply]
  simp only [gT_eq, e0, e1, e2]
  rw [halves _ fun n => gg V c (q / 8) n (q % 8 * 1024 + k.val)]
  congr 1
  by_cases h : j = 0
  · rw [if_pos ((cond1_iff _).mpr (by rw [e1]; exact h)), if_pos h]
    exact zeroS_apply _
  · rw [if_neg (fun h' => h (by rw [← e1]; exact (cond1_iff _).mp h')), if_neg h]

/-- The eight rows of partial sums, added up after the last block of y: the sum over every position. -/
theorem sum_S {A : ℕ → Vec Ideal S1x8x1024 .f32} {f : ℕ → EReal} {k : Fin 1024} {q : ℕ}
    (h : ∀ (s : Fin 8) (j : ℕ), j < 16 → A (16 * q + j + 1) (ix3 0 s k) = (if j = 0 then 0 else A (16 * q + j) (ix3 0 s k))
      + ∑ h ∈ Finset.range 2, ∑ a ∈ Finset.range 32, f (j * 512 + h * 256 + (a * 8 + s.val))) :
    ∑ s : Fin 8, A (16 * q + 15 + 1) (ix3 0 s k) = ∑ n ∈ Finset.range 8192, f n := by
  rw [← sum_rows, ← Fin.sum_univ_eq_sum_range (fun s => ∑ j ∈ Finset.range 16, ∑ k ∈ Finset.range 2, ∑ a ∈ Finset.range 32, f (j * 512 + k * 256 + (a * 8 + s))) 8]
  refine Finset.sum_congr rfl fun s _ => ?_
  exact restart16 (fun n => A n (ix3 0 s k)) (fun _ j => ∑ h ∈ Finset.range 2, ∑ a ∈ Finset.range 32, f (j * 512 + h * 256 + (a * 8 + s.val))) q (h s) 15 (by decide)

include hq in
theorem DXV_last (e : Fin 1152) : DXV V c (16 * q + 15 + 1) (ix2 e k)
    = ∑ n ∈ Finset.range 8192, ytA V c (q / 8) e n * gg V c (q / 8) n (q % 8 * 1024 + k.val) := by
  rw [show (8192 : ℕ) = 16 * 512 from rfl, ← sum_range_range 16 512]
  refine restart16 (fun n => DXV V c n (ix2 e k)) (fun _ j => ∑ r ∈ Finset.range 512, ytA V c (q / 8) e (j * 512 + r) * gg V c (q / 8) (j * 512 + r) (q % 8 * 1024 + k.val)) q (fun j hj => ?_) 15 (by decide)
  obtain ⟨e0, e1, e2⟩ := crd q hq hj
  show dxNext _ _ _ _ _ _ _ = _
  unfold dxNext
  rw [dxStep_apply]
  simp only [gT_eq, iblk3_ytA, e0, e1, e2]
  rw [Fin.sum_univ_eq_sum_range (fun r => ytA V c (q / 8) e (j * 512 + r) * gg V c (q / 8) (j * 512 + r) (q % 8 * 1024 + k.val)) 512]
  congr 1
  by_cases h : j = 0
  · rw [if_pos ((cond1_iff _).mpr (by rw [e1]; exact h)), if_pos h]
    exact zeroDx_apply _
  · rw [if_neg (fun h' => h (by rw [← e1]; exact (cond1_iff _).mp h')), if_neg h]
end Sums

/-- The accumulator of the gradient of y after the last block of x: the sum over every position of x. -/
theorem DYV_last (g : ℕ) (hg : g < 4) (j : ℕ) (hj : j < 16) (e : Fin 1152) (r : Fin 512) : DYV V c j (8 * g + 7 + 1) (ix3 0 e r)
    = ∑ n ∈ Finset.range 8192, xA V c g e n * gg V c g (j * 512 + r.val) n := by
  rw [show (8192 : ℕ) = 8 * 1024 from rfl, ← sum_range_range 8 1024]
  refine restart8 (fun n => DYV V c j n (ix3 0 e r)) (fun _ i => ∑ k ∈ Finset.range 1024, xA V c g e (i * 1024 + k) * gg V c g (j * 512 + r.val) (i * 1024 + k)) g (fun i hi => ?_) 7 (by decide)
  obtain ⟨e0, e1, e2⟩ := crd (8 * g + i) (by omega) hj
  rw [show (8 * g + i) / 8 = g by omega] at e0
  rw [show (8 * g + i) % 8 = i by omega] at e2
  show dyNext _ _ _ _ _ _ = _
  unfold dyNext
  rw [dyStep_apply]
  simp only [gT_eq, iblk1_xA, e0, e1, e2]
  rw [Fin.sum_univ_eq_sum_range (fun k => xA V c g e (i * 1024 + k) * gg V c g (j * 512 + r.val) (i * 1024 + k)) 1024]
  congr 1
  by_cases h : i = 0
  · rw [if_pos ((cond2_iff _).mpr (by rw [e2]; exact h)), if_pos h]
    exact zeroDy_apply _
  · rw [if_neg (fun h' => h (by rw [← e2]; exact (cond2_iff _).mp h')), if_neg h]

/-! ## The result arrays -/

theorem idx2_4 : ∀ t : Fin cfg2.N, win2_4.index t = ![t.val / 128, 0, t.val / 16 % 8] := (by decide +kernel : ∀ t : Fin grid2.N, _)
theorem idx2_5 : ∀ t : Fin cfg2.N, win2_5.index t = ![t.val / 128, t.val / 16 % 8, 0] := (by decide +kernel : ∀ t : Fin grid2.N, _)
theorem flush4_iff : ∀ t : Fin cfg2.N, (cfg2.win 4).flush t = true → t.val % 16 = 15 :=
  (by decide +kernel : ∀ t : Fin grid2.N, win2_4.flush t = true → t.val % 16 = 15)
theorem flush5_iff : ∀ t : Fin cfg2.N, (cfg2.win 5).flush t = true → t.val % 16 = 15 :=
  (by decide +kernel : ∀ t : Fin grid2.N, win2_5.flush t = true → t.val % 16 = 15)
theorem flush7_iff : ∀ t : Fin cfg2.N, (cfg2.win 7).flush t = true → t.val % 16 = 15 :=
  (by decide +kernel : ∀ t : Fin grid2.N, win2_7.flush t = true → t.val % 16 = 15)
theorem flush8_iff : ∀ t : Fin cfg2.N, (cfg2.win 8).flush t = true → t.val % 16 = 15 :=
  (by decide +kernel : ∀ t : Fin grid2.N, win2_8.flush t = true → t.val % 16 = 15)
theorem idx2_6 : ∀ t : Fin cfg2.N, t.val / 16 % 8 = 7 → win2_6.index t = ![t.val / 128, t.val % 16, 0] :=
  (by decide +kernel : ∀ t : Fin grid2.N, t.val / 16 % 8 = 7 → win2_6.index t = ![t.val / 128, t.val % 16, 0])
theorem idx2_7 : ∀ t : Fin cfg2.N, win2_7.index t = ![t.val / 128, 0, t.val / 16 % 8] := (by decide +kernel : ∀ t : Fin grid2.N, _)
theorem idx2_8 : ∀ t : Fin cfg2.N, win2_8.index t = ![t.val / 128, 0, t.val / 16 % 8] := (by decide +kernel : ∀ t : Fin grid2.N, _)

/-- What the five result arrays end holding. -/
def LossR : Vec Ideal S4x1x8192 .f32 := fun y => ∑ n ∈ Finset.range 8192, sp V c (y 0).val n (y 2).val
def DtR : Vec Ideal S4x1x8192 .f32 := fun y => (∑ n ∈ Finset.range 8192, gg V c (y 0).val n (y 2).val * td V c (y 0).val n (y 2).val) * pA V c 2
def DbR : Vec Ideal S4x1x8192 .f32 := fun y => (∑ n ∈ Finset.range 8192, gg V c (y 0).val n (y 2).val) * pA V c 2
def DxR : Vec Ideal S4x8192x1152 .bf16 := fun y => pA V c 0 * pA V c 2 * ∑ n ∈ Finset.range 8192, ytA V c (y 0).val (y 2) n * gg V c (y 0).val n (y 1).val
def DyR : Vec Ideal S4x8192x1152 .bf16 := fun y => pA V c 0 * pA V c 2 * ∑ n ∈ Finset.range 8192, xA V c (y 0).val (y 2) n * gg V c (y 0).val (y 1).val n

theorem t_split (t : Fin cfg2.N) (h : t.val % 16 = 15) : t.val + 1 = 16 * (t.val / 16) + 15 + 1 ∧ t.val / 16 < 32 ∧ t.val / 16 / 8 = t.val / 128 := by
  have := t_lt t
  omega

theorem bt_val {g : ℕ} (h : g < 4) : (bt g).val = g := Nat.mod_eq_of_lt h
theorem sq_val {g : ℕ} (h : g < 8192) : (sq g).val = g := Nat.mod_eq_of_lt h

theorem lossA : (dat (F := Ideal) V c).arrAt 4 cfg2.N = LossR V c := by
  refine (dat V c).arrAt_eq_of_covers 4 _ (by decide +kernel) fun t hf y => ?_
  have ht := t_split t (flush4_iff t hf)
  have := t_lt t
  blk_simp
  rw [after4]
  obtain ⟨k, rfl⟩ : ∃ k : Fin 1024, y = ix3 0 0 k := ⟨y 2, by rw [eq_ix3 y]; congr 1 <;> exact Subsingleton.elim _ _⟩
  have he : ((cfg2.win 4).blk t).view.emb (ix3 0 0 k) = ix3 (bt (t.val / 128)) 0 (sq (t.val / 16 % 8 * 1024 + k.val)) := by blk_ext [idx2_4]
  rw [outLoss_apply, ht.1, sum_S (f := fun n => sp V c (t.val / 128) n (t.val / 16 % 8 * 1024 + k.val)) (fun s j hj => by rw [S0V_step V c _ ht.2.1 s k j hj, ht.2.2])]
  have := k.isLt
  show _ = LossR V c (((cfg2.win 4).blk t).view.emb (ix3 0 0 k))
  rw [he]
  show _ = ∑ n ∈ Finset.range 8192, sp V c (bt (t.val / 128)).val n (sq (t.val / 16 % 8 * 1024 + k.val)).val
  rw [bt_val (by omega), sq_val (by omega)]

theorem dtA : (dat (F := Ideal) V c).arrAt 7 cfg2.N = DtR V c := by
  refine (dat V c).arrAt_eq_of_covers 7 _ (by decide +kernel) fun t hf y => ?_
  have ht := t_split t (flush7_iff t hf)
  have := t_lt t
  blk_simp
  rw [after7]
  obtain ⟨k, rfl⟩ : ∃ k : Fin 1024, y = ix3 0 0 k := ⟨y 2, by rw [eq_ix3 y]; congr 1 <;> exact Subsingleton.elim _ _⟩
  have he : ((cfg2.win 7).blk t).view.emb (ix3 0 0 k) = ix3 (bt (t.val / 128)) 0 (sq (t.val / 16 % 8 * 1024 + k.val)) := by blk_ext [idx2_7]
  rw [outDt_apply, ht.1, sum_S (f := fun n => gg V c (t.val / 128) n (t.val / 16 % 8 * 1024 + k.val) * td V c (t.val / 128) n (t.val / 16 % 8 * 1024 + k.val))
    (fun s j hj => by rw [S1V_step V c _ ht.2.1 s k j hj, ht.2.2]), iblk0_apply]
  have := k.isLt
  show _ = DtR V c (((cfg2.win 7).blk t).view.emb (ix3 0 0 k))
  rw [he]
  show _ = (∑ n ∈ Finset.range 8192, gg V c (bt (t.val / 128)).val n (sq (t.val / 16 % 8 * 1024 + k.val)).val
    * td V c (bt (t.val / 128)).val n (sq (t.val / 16 % 8 * 1024 + k.val)).val) * pA V c 2
  rw [bt_val (by omega), sq_val (by omega)]
  rfl

theorem dbA : (dat (F := Ideal) V c).arrAt 8 cfg2.N = DbR V c := by
  refine (dat V c).arrAt_eq_of_covers 8 _ (by decide +kernel) fun t hf y => ?_
  have ht := t_split t (flush8_iff t hf)
  have := t_lt t
  blk_simp
  rw [after8]
  obtain ⟨k, rfl⟩ : ∃ k : Fin 1024, y = ix3 0 0 k := ⟨y 2, by rw [eq_ix3 y]; congr 1 <;> exact Subsingleton.elim _ _⟩
  have he : ((cfg2.win 8).blk t).view.emb (ix3 0 0 k) = ix3 (bt (t.val / 128)) 0 (sq (t.val / 16 % 8 * 1024 + k.val)) := by blk_ext [idx2_8]
  rw [outDb_apply, ht.1, sum_S (f := fun n => gg V c (t.val / 128) n (t.val / 16 % 8 * 1024 + k.val))
    (fun s j hj => by rw [S2V_step V c _ ht.2.1 s k j hj, ht.2.2]), iblk0_apply]
  have := k.isLt
  show _ = DbR V c (((cfg2.win 8).blk t).view.emb (ix3 0 0 k))
  rw [he]
  show _ = (∑ n ∈ Finset.range 8192, gg V c (bt (t.val / 128)).val n (sq (t.val / 16 % 8 * 1024 + k.val)).val) * pA V c 2
  rw [bt_val (by omega), sq_val (by omega)]
  rfl

theorem dxA : (dat (F := Ideal) V c).arrAt 5 cfg2.N = DxR V c := by
  refine (dat V c).arrAt_eq_of_covers 5 _ (by decide +kernel) fun t hf y => ?_
  have ht := t_split t (flush5_iff t hf)
  have := t_lt t
  blk_simp
  rw [after5]
  obtain ⟨k, e, rfl⟩ : ∃ (k : Fin 1024) (e : Fin 1152), y = ix3 0 k e := ⟨y 1, y 2, by rw [eq_ix3 y]; congr 1; exact Subsingleton.elim _ _⟩
  have he : ((cfg2.win 5).blk t).view.emb (ix3 0 k e) = ix3 (bt (t.val / 128)) (sq (t.val / 16 % 8 * 1024 + k.val)) e := by blk_ext [idx2_5]
  rw [outDx_apply, ht.1, DXV_last V c _ ht.2.1, ht.2.2, iblk0_apply, iblk0_apply]
  have := k.isLt
  show _ = DxR V c (((cfg2.win 5).blk t).view.emb (ix3 0 k e))
  rw [he]
  show _ = pA V c 0 * pA V c 2 * (∑ n ∈ Finset.range 8192, ytA V c (bt (t.val / 128)).val e n * gg V c (bt (t.val / 128)).val n (sq (t.val / 16 % 8 * 1024 + k.val)).val)
  rw [bt_val (by omega), sq_val (by omega)]
  rfl

theorem dyA : (dat (F := Ideal) V c).arrAt 6 cfg2.N = DyR V c := by
  refine (dat V c).arrAt_eq_of_covers 6 _ (by decide +kernel) fun t hf y => ?_
  have hf' := (flush6_iff t).mp hf
  have := t_lt t
  have ht : t.val / 16 + 1 = 8 * (t.val / 128) + 7 + 1 := by omega
  blk_simp
  rw [after6]
  obtain ⟨k, e, rfl⟩ : ∃ (k : Fin 512) (e : Fin 1152), y = ix3 0 k e := ⟨y 1, y 2, by rw [eq_ix3 y]; congr 1; exact Subsingleton.elim _ _⟩
  have he : ((cfg2.win 6).blk t).view.emb (ix3 0 k e) = ix3 (bt (t.val / 128)) (sq (t.val % 16 * 512 + k.val)) e := by
    have hi := idx2_6 t hf'
    blk_ext [hi]
  rw [outDy_apply, ht, DYV_last V c _ (by omega) _ (by omega), iblk0_apply, iblk0_apply]
  have := k.isLt
  show _ = DyR V c (((cfg2.win 6).blk t).view.emb (ix3 0 k e))
  rw [he]
  show _ = pA V c 0 * pA V c 2 * (∑ n ∈ Finset.range 8192, xA V c (bt (t.val / 128)).val e n * gg V c (bt (t.val / 128)).val (sq (t.val % 16 * 512 + k.val)).val n)
  rw [bt_val (by omega), sq_val (by omega)]
  rfl

end R2

end Cert.KernelIdeal.Hand
-- ==== Proof.KernelIdeal.PrepVals.lean ====
/-
  What the two preparing pallas_calls leave, over the extended reals: every code times the scale of its group of 32.
-/
module

public import proofs.«01_k».proof.Proof.KernelIdeal.Prep
public import Idealize.ShloMosaic.Lib.Pointwise
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe
open scoped BigOperators

/-- The group of 32 that column `d` lies in. -/
abbrev grp (d : Fin 1152) : Fin 36 := ⟨d.val / 32, by omega⟩

variable (x0 : Vec Ideal S1x512x1152 .fp8e4m3) (x1 : Vec Ideal S1x512x36 .f32) (r : Fin 512) (d : Fin 1152)

theorem ld_codes : View.ld x0 rCodes = x0 := View.ld_unit_lit (S := S1x512x1152) (off := ![0, 0, 0]) _ x0 (by decide)
theorem ld_scales : View.ld x1 rScales = x1 := View.ld_unit_lit (S := S1x512x36) (off := ![0, 0, 0]) _ x1 (by decide)

/-- The division by 32 of a column's number, as the bodies compute it: the quotient rounded down. -/
theorem floor32 : ∀ d : Fin 1152, Scalar.select
      (IntOp.andi
        (IntOp.cmpi CmpIPredicate.ne
          (IntOp.subi (BitVec.setWidth 32 (IntOp.cmpi CmpIPredicate.sgt (BitVec.ofNat 32 d.val) 0#32))
            (BitVec.setWidth 32 (IntOp.cmpi CmpIPredicate.slt (BitVec.ofNat 32 d.val) 0#32)))
          (Scalar.subi (Scalar.extui (Scalar.cmpi CmpIPredicate.sgt 32#32 0#32))
            (Scalar.extui (Scalar.cmpi CmpIPredicate.slt 32#32 0#32))))
        (IntOp.cmpi CmpIPredicate.ne (IntOp.remsi ArithUnit.vector (BitVec.ofNat 32 d.val) 32#32) 0#32))
      (IntOp.subi (IntOp.divsi ArithUnit.vector (BitVec.ofNat 32 d.val) 32#32) 1#32)
      (IntOp.divsi ArithUnit.vector (BitVec.ofNat 32 d.val) 32#32) = BitVec.ofNat 32 (grp d).val := by decide +kernel

/-- Whether two groups are one, widened to a word and read as a number. -/
theorem hot : ∀ a b : Fin 36, BitVec.setWidth 32 (IntOp.cmpi CmpIPredicate.eq (BitVec.ofNat 32 a.val) (BitVec.ofNat 32 b.val)) = if b = a then 1#32 else 0#32 := by
  decide +kernel

/-- The product with the matrix that has a one where the column lies in the row's group picks that group's scale. -/
theorem pick (f : Fin 36 → EReal) (a : Fin 36) :
    ∑ b : Fin 36, f b * (FloatOps.sitofp (F := Ideal) FTy.f32 (if b = a then 1#32 else 0#32) : EReal) = f a := by
  rw [Finset.sum_eq_single a]
  · rw [if_pos rfl]
    have h : (FloatOps.sitofp (F := Ideal) FTy.f32 (1#32) : EReal) = 1 := by
      show (((1#32 : BitVec 32).toInt : ℝ) : EReal) = 1
      norm_num
    rw [h, mul_one]
  · intro b _ hb
    rw [if_neg hb]
    have h : (FloatOps.sitofp (F := Ideal) FTy.f32 (0#32) : EReal) = 0 := by
      show (((0#32 : BitVec 32).toInt : ℝ) : EReal) = 0
      norm_num
    rw [h, mul_zero]
  · intro h; exact absurd (Finset.mem_univ a) h

theorem widX_apply : k0_pay2 (F := Ideal) x0 x1 (ix2 d r) = x0 (ix3 0 r d) * x1 (ix3 0 r (grp d)) := by
  pointwise [k0_pay2]
  simp only [floor32]
  congr 1
  refine (Finset.sum_congr rfl fun b _ => ?_).trans (pick (fun b => x1 (ix3 0 r b)) (grp d))
  exact congrArg (fun w => x1 (ix3 0 r b) * (FloatOps.sitofp (F := Ideal) FTy.f32 w : EReal)) (hot (grp d) b)
theorem widY_apply : k1_pay3 (F := Ideal) x0 x1 (ix2 r d) = x0 (ix3 0 r d) * x1 (ix3 0 r (grp d)) := by
  pointwise [k1_pay3]
  simp only [floor32]
  congr 1
  refine (Finset.sum_congr rfl fun b _ => ?_).trans (pick (fun b => x1 (ix3 0 r b)) (grp d))
  exact congrArg (fun w => x1 (ix3 0 r b) * (FloatOps.sitofp (F := Ideal) FTy.f32 w : EReal)) (hot (grp d) b)

/-- What the bodies leave in their blocks. -/
theorem outX_apply : outX_xt (F := Ideal) x0 x1 (ix3 0 d r) = x0 (ix3 0 r d) * x1 (ix3 0 r (grp d)) := by
  unfold outX_xt
  rw [View.canon_cons_unit_lit (S := S1x1152x512) (off := ![0, 0, 0]) _ _ _ (by decide), ld_codes, ld_scales]
  pointwise [k0_pay1, widX_apply]
theorem outY_apply : outY_y (F := Ideal) x0 x1 (ix3 0 r d) = x0 (ix3 0 r d) * x1 (ix3 0 r (grp d)) := by
  unfold outY_y
  rw [View.canon_cons_unit_lit (S := S1x512x1152) (off := ![0, 0, 0]) _ _ _ (by decide), ld_codes, ld_scales]
  pointwise [k1_pay1, widY_apply]
theorem outYt_apply : outY_yt (F := Ideal) x0 x1 (ix3 0 d r) = x0 (ix3 0 r d) * x1 (ix3 0 r (grp d)) := by
  unfold outY_yt
  rw [View.canon_cons_unit_lit (S := S1x1152x512) (off := ![0, 0, 0]) _ _ _ (by decide), ld_codes, ld_scales]
  pointwise [k1_pay2, widY_apply]

/-- Every code times the scale of its group of 32, -/
def wid (C : Vec Ideal S4x8192x1152 .fp8e4m3) (S : Vec Ideal S4x8192x36 .f32) : Vec Ideal S4x8192x1152 .bf16 :=
  fun y => C (ix3 (y 0) (y 1) (y 2)) * S (ix3 (y 0) (y 1) (grp (y 2)))
/-- and the same transposed. -/
def widT (C : Vec Ideal S4x8192x1152 .fp8e4m3) (S : Vec Ideal S4x8192x36 .f32) : Vec Ideal S4x1152x8192 .bf16 :=
  fun y => C (ix3 (y 0) (y 2) (y 1)) * S (ix3 (y 0) (y 2) (grp (y 1)))

/-- Batch member and row of the sequence that row `r` of point `t`'s block lies at. -/
abbrev pb (t : ℕ) : Fin 4 := ⟨t / 16 % 4, Nat.mod_lt _ (by decide)⟩
abbrev pr (t : ℕ) (r : Fin 512) : Fin 8192 := ⟨(t % 16 * 512 + r.val) % 8192, Nat.mod_lt _ (by decide)⟩

namespace R0
variable (V : Dev nD → Valuation τ sig (Elt Ideal)) (c : Dev nD) (t : Fin cfg0.N)

theorem idx0_0 : ∀ t : Fin cfg0.N, win0_0.index t = ![t.val / 16, t.val % 16, 0] := (by decide +kernel : ∀ t : Fin grid0.N, _)
theorem idx0_1 : ∀ t : Fin cfg0.N, win0_1.index t = ![t.val / 16, t.val % 16, 0] := (by decide +kernel : ∀ t : Fin grid0.N, _)
theorem idx0_2 : ∀ t : Fin cfg0.N, win0_2.index t = ![t.val / 16, 0, t.val % 16] := (by decide +kernel : ∀ t : Fin grid0.N, _)
theorem t_lt (t : Fin cfg0.N) : t.val < 64 := lt_of_lt_of_eq (show t.val < grid0.N from t.isLt) (by decide +kernel)

theorem iblk0_apply : (iblk V c 0 t : Vec Ideal S1x512x1152 .fp8e4m3) (ix3 0 r d) = V c main_arg0 (ix3 (pb t) (pr t r) d) := by
  have := t_lt t
  blk_simp [iblk]
  congr 1
  blk_ext [idx0_0]
theorem iblk1_apply (k : Fin 36) : (iblk V c 1 t : Vec Ideal S1x512x36 .f32) (ix3 0 r k) = V c main_arg1 (ix3 (pb t) (pr t r) k) := by
  have := t_lt t
  blk_simp [iblk]
  congr 1
  blk_ext [idx0_1]
/-- The call leaves x, widened and transposed. -/
theorem xtA : (dat (F := Ideal) V c).arrAt 2 cfg0.N = widT (V c main_arg0) (V c main_arg1) := by
  refine (dat V c).arrAt_eq_of_covers 2 _ (by decide +kernel) fun t hf y => ?_
  have := t_lt t
  blk_simp
  rw [after2]
  obtain ⟨e, k, rfl⟩ : ∃ (e : Fin 1152) (k : Fin 512), y = ix3 0 e k := ⟨y 1, y 2, by rw [eq_ix3 y]; congr 1; exact Subsingleton.elim _ _⟩
  have he : ((cfg0.win 2).blk t).view.emb (ix3 0 e k) = ix3 (pb t) e (pr t k) := by blk_ext [idx0_2]
  rw [outX_apply, iblk0_apply, iblk1_apply]
  show _ = widT (V c main_arg0) (V c main_arg1) (((cfg0.win 2).blk t).view.emb (ix3 0 e k))
  rw [he]
  rfl
end R0

namespace R1
variable (V : Dev nD → Valuation τ sig (Elt Ideal)) (c : Dev nD) (t : Fin cfg1.N)

theorem idx1_0 : ∀ t : Fin cfg1.N, win1_0.index t = ![t.val / 16, t.val % 16, 0] := (by decide +kernel : ∀ t : Fin grid1.N, _)
theorem idx1_1 : ∀ t : Fin cfg1.N, win1_1.index t = ![t.val / 16, t.val % 16, 0] := (by decide +kernel : ∀ t : Fin grid1.N, _)
theorem idx1_2 : ∀ t : Fin cfg1.N, win1_2.index t = ![t.val / 16, t.val % 16, 0] := (by decide +kernel : ∀ t : Fin grid1.N, _)
theorem idx1_3 : ∀ t : Fin cfg1.N, win1_3.index t = ![t.val / 16, 0, t.val % 16] := (by decide +kernel : ∀ t : Fin grid1.N, _)
theorem t_lt (t : Fin cfg1.N) : t.val < 64 := lt_of_lt_of_eq (show t.val < grid1.N from t.isLt) (by decide +kernel)

theorem iblk0_apply : (iblk V c 0 t : Vec Ideal S1x512x1152 .fp8e4m3) (ix3 0 r d) = V c main_arg2 (ix3 (pb t) (pr t r) d) := by
  have := t_lt t
  blk_simp [iblk]
  congr 1
  blk_ext [idx1_0]
theorem iblk1_apply (k : Fin 36) : (iblk V c 1 t : Vec Ideal S1x512x36 .f32) (ix3 0 r k) = V c main_arg3 (ix3 (pb t) (pr t r) k) := by
  have := t_lt t
  blk_simp [iblk]
  congr 1
  blk_ext [idx1_1]
/-- The call leaves y, widened, -/
theorem yA : (dat (F := Ideal) V c).arrAt 2 cfg1.N = wid (V c main_arg2) (V c main_arg3) := by
  refine (dat V c).arrAt_eq_of_covers 2 _ (by decide +kernel) fun t hf y => ?_
  have := t_lt t
  blk_simp
  rw [after2]
  obtain ⟨k, e, rfl⟩ : ∃ (k : Fin 512) (e : Fin 1152), y = ix3 0 k e := ⟨y 1, y 2, by rw [eq_ix3 y]; congr 1; exact Subsingleton.elim _ _⟩
  have he : ((cfg1.win 2).blk t).view.emb (ix3 0 k e) = ix3 (pb t) (pr t k) e := by blk_ext [idx1_2]
  rw [outY_apply, iblk0_apply, iblk1_apply]
  show _ = wid (V c main_arg2) (V c main_arg3) (((cfg1.win 2).blk t).view.emb (ix3 0 k e))
  rw [he]
  rfl
/-- and the same transposed. -/
theorem ytA : (dat (F := Ideal) V c).arrAt 3 cfg1.N = widT (V c main_arg2) (V c main_arg3) := by
  refine (dat V c).arrAt_eq_of_covers 3 _ (by decide +kernel) fun t hf y => ?_
  have := t_lt t
  blk_simp
  rw [after3]
  obtain ⟨e, k, rfl⟩ : ∃ (e : Fin 1152) (k : Fin 512), y = ix3 0 e k := ⟨y 1, y 2, by rw [eq_ix3 y]; congr 1; exact Subsingleton.elim _ _⟩
  have he : ((cfg1.win 3).blk t).view.emb (ix3 0 e k) = ix3 (pb t) e (pr t k) := by blk_ext [idx1_3]
  rw [outYt_apply, iblk0_apply, iblk1_apply]
  show _ = widT (V c main_arg2) (V c main_arg3) (((cfg1.win 3).blk t).view.emb (ix3 0 e k))
  rw [he]
  rfl
end R1

end Cert.KernelIdeal.Hand
-- ==== Proof.KernelIdeal.Results.lean ====
/-
  The kernel program's results over the extended reals, from its arguments.
-/
module

public import proofs.«01_k».proof.Proof.KernelIdeal.Run
public import proofs.«01_k».proof.Proof.KernelIdeal.Accum
public import proofs.«01_k».proof.Proof.KernelIdeal.PrepVals
public import proofs.«01_k».proof.Proof.Math
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe
open Idealize.ShloMosaic.StableHlo
open Siglip
open scoped BigOperators

variable (m : (ℓ : Loc nD τ sig) → Buf (Elt Ideal) ℓ) (c : Dev nD)

theorem U3_v6 : U3 m c main_v6 = concatenate S3 0
    [⟨S1, (broadcastInDim S1 ![] bcast_S_S1) (Host.exp (U2 m c main_arg4 : FVec Ideal S_ .f32) : FVec Ideal S_ .f32)⟩,
     ⟨S1, (broadcastInDim S1 ![] bcast_S_S1) (U2 m c main_arg5 : Vec Ideal S_ .f32)⟩,
     ⟨S1, (broadcastInDim S1 ![] bcast_S_S1) (constant S_ FTy.f32 0x39000000#32 : FVec Ideal S_ .f32)⟩] concatenates_S1_S1_S1_S3_d0 := by
  unfold U3
  after_results
  rfl

/-- The host's reshapes of the main call's results. -/
theorem v8 : StableHlo.after hostOps3 (U4 m c) main_v8 = shapeCast S4x8192 (U4 m c main_v7_0 : Vec Ideal S4x1x8192 .f32) shapeCasts_S4x1x8192_S4x8192 := by
  after_results
  rfl
theorem v9 : StableHlo.after hostOps3 (U4 m c) main_v9 = shapeCast S4x8192 (U4 m c main_v7_3 : Vec Ideal S4x1x8192 .f32) shapeCasts_S4x1x8192_S4x8192 := by
  after_results
  rfl
theorem v10 : StableHlo.after hostOps3 (U4 m c) main_v10 = shapeCast S4x8192 (U4 m c main_v7_4 : Vec Ideal S4x1x8192 .f32) shapeCasts_S4x1x8192_S4x8192 := by
  after_results
  rfl

/-- An array that only the earlier calls write is unchanged by the host's scalars. -/
theorem U3_of (r : Ref sig .tc) (h : r ∉ hostOps2_W) : U3 m c r = U2 m c r := StableHlo.after_of_writes_sub hostOps2 _ hostOps2_writes h
theorem U2_of (r : Ref sig .tc) (h : r ∉ ([main_v1_0, main_v1_1] : List (Ref sig .tc))) : U2 m c r = U1 m c r := by
  have := V2_of m (outs m) c r h
  rwa [V2_eq, V1_eq] at this
theorem U1_of (r : Ref sig .tc) (h : r ∉ ([main_v0] : List (Ref sig .tc))) : U1 m c r = V0 m c r := by
  have := V1_of m (outs m) c r h
  rwa [V1_eq] at this

/-- The arguments at their plain types. -/
abbrev aXc : Vec Ideal S4x8192x1152 .fp8e4m3 := m ((c.tc : Thread nD τ).loc main_arg0)
abbrev aXs : Vec Ideal S4x8192x36 .f32 := m ((c.tc : Thread nD τ).loc main_arg1)
abbrev aYc : Vec Ideal S4x8192x1152 .fp8e4m3 := m ((c.tc : Thread nD τ).loc main_arg2)
abbrev aYs : Vec Ideal S4x8192x36 .f32 := m ((c.tc : Thread nD τ).loc main_arg3)
abbrev aT : Vec Ideal S_ .f32 := m ((c.tc : Thread nD τ).loc main_arg4)
abbrev aB : Vec Ideal S_ .f32 := m ((c.tc : Thread nD τ).loc main_arg5)

/-- The one index of a scalar. -/
abbrev i0 : S_.Idx := fun a => a.elim0

/-- The operands and the parameters of the mathematics. -/
def mX (g : Fin 4) (i : Fin 8192) (d : Fin 1152) : EReal := aXc m c (ix3 g i d) * aXs m c (ix3 g i (grp d))
def mY (g : Fin 4) (i : Fin 8192) (d : Fin 1152) : EReal := aYc m c (ix3 g i d) * aYs m c (ix3 g i (grp d))
def mT : EReal := Ideal.exp (aT m c i0)
def mB : EReal := aB m c i0

theorem U3_v0 : (U3 m c main_v0 : Vec Ideal S4x1152x8192 .bf16) = widT (aXc m c) (aXs m c) := by
  rw [U3_of m c main_v0 (by decide), U2_of m c main_v0 (by decide), U1_v0, R0.xtA]
theorem U3_v1_0 : (U3 m c main_v1_0 : Vec Ideal S4x8192x1152 .bf16) = wid (aYc m c) (aYs m c) := by
  rw [U3_of m c main_v1_0 (by decide), U2_v1_0, R1.yA, U1_of m c main_arg2 (by decide), U1_of m c main_arg3 (by decide)]
theorem U3_v1_1 : (U3 m c main_v1_1 : Vec Ideal S4x1152x8192 .bf16) = widT (aYc m c) (aYs m c) := by
  rw [U3_of m c main_v1_1 (by decide), U2_v1_1, R1.ytA, U1_of m c main_arg2 (by decide), U1_of m c main_arg3 (by decide)]
theorem U2_arg4 : (U2 m c main_arg4 : Vec Ideal S_ .f32) = aT m c := by
  rw [U2_of m c main_arg4 (by decide), U1_of m c main_arg4 (by decide)]
theorem U2_arg5 : (U2 m c main_arg5 : Vec Ideal S_ .f32) = aB m c := by
  rw [U2_of m c main_arg5 (by decide), U1_of m c main_arg5 (by decide)]

theorem pA0 : R2.pA (U3 m) c 0 = mT m c := by
  unfold R2.pA mT
  rw [U3_v6, U2_arg4, U2_arg5]
  pointwise []
  exact congrArg (fun k => Ideal.exp (aT m c k)) (funext fun a => a.elim0)
theorem pA1 : R2.pA (U3 m) c 1 = mB m c := by
  unfold R2.pA mB
  rw [U3_v6, U2_arg4, U2_arg5]
  pointwise []
  exact congrArg (aB m c) (funext fun a => a.elim0)
theorem pA2 : R2.pA (U3 m) c 2 = (rcp : EReal) := by
  unfold R2.pA
  rw [U3_v6, U2_arg4, U2_arg5]
  pointwise []
  exact ofBits_rcp

theorem bt_self (g : Fin 4) : bt g.val = g := Fin.ext (Nat.mod_eq_of_lt g.isLt)
theorem sq_self (i : Fin 8192) : sq i.val = i := Fin.ext (Nat.mod_eq_of_lt i.isLt)

variable (g : Fin 4) (i j : Fin 8192) (d : Fin 1152)

theorem xA_eq : R2.xA (U3 m) c g.val d i.val = mX m c g i d := by
  unfold R2.xA mX
  rw [U3_v0, bt_self, sq_self]
  rfl
theorem yA_eq : R2.yA (U3 m) c g.val j.val d = mY m c g j d := by
  unfold R2.yA mY
  rw [U3_v1_0, bt_self, sq_self]
  rfl
theorem ytA_eq : R2.ytA (U3 m) c g.val d j.val = mY m c g j d := by
  unfold R2.ytA mY
  rw [U3_v1_1, bt_self, sq_self]
  rfl
theorem td_eq : R2.td (U3 m) c g.val j.val i.val = tdM (mT m c) (mX m c) (mY m c) g i j := by
  unfold R2.td tdM
  rw [pA0]
  exact congrArg (mT m c * ·) (Finset.sum_congr rfl fun d _ => by rw [xA_eq, yA_eq, mul_comm])
theorem lg_eq : R2.lg (U3 m) c g.val j.val i.val = lgM (mT m c) (mB m c) (mX m c) (mY m c) g i j := by
  unfold R2.lg lgM
  rw [td_eq, pA1]
theorem dg_eq : R2.dg j.val i.val = dgM i j := by
  unfold R2.dg dgM
  simp only [Fin.ext_iff]
theorem gg_eq : R2.gg (U3 m) c g.val j.val i.val = grM (mT m c) (mB m c) (mX m c) (mY m c) g i j := by
  unfold R2.gg grM
  rw [lg_eq, dg_eq, kG_eq]
theorem sp_eq : R2.sp (U3 m) c g.val j.val i.val = spM (mT m c) (mB m c) (mX m c) (mY m c) g i j := by
  unfold R2.sp spM
  rw [lg_eq, dg_eq, kSp_eq]

/-- The program's five results. -/
theorem res_loss : (StableHlo.after hostOps3 (U4 m c) main_v8 : Vec Ideal S4x8192 .f32) (ix2 g i) = lossM (mT m c) (mB m c) (mX m c) (mY m c) g i := by
  rw [v8, U4_v7_0, R2.lossA]
  pointwise []
  show ∑ n ∈ Finset.range 8192, R2.sp (U3 m) c g.val n i.val = _
  rw [← Fin.sum_univ_eq_sum_range (fun n => R2.sp (U3 m) c g.val n i.val)]
  exact Finset.sum_congr rfl fun j _ => sp_eq m c g i j
theorem res_dt : (StableHlo.after hostOps3 (U4 m c) main_v9 : Vec Ideal S4x8192 .f32) (ix2 g i) = dtM (mT m c) (mB m c) (mX m c) (mY m c) g i := by
  rw [v9, U4_v7_3, R2.dtA]
  pointwise []
  show (∑ n ∈ Finset.range 8192, R2.gg (U3 m) c g.val n i.val * R2.td (U3 m) c g.val n i.val) * R2.pA (U3 m) c 2 = _
  rw [← Fin.sum_univ_eq_sum_range (fun n => R2.gg (U3 m) c g.val n i.val * R2.td (U3 m) c g.val n i.val), pA2, ← dtM_eq]
  exact congrArg (· * (rcp : EReal)) (Finset.sum_congr rfl fun j _ => by rw [gg_eq, td_eq])
theorem res_db : (StableHlo.after hostOps3 (U4 m c) main_v10 : Vec Ideal S4x8192 .f32) (ix2 g i) = dbM (mT m c) (mB m c) (mX m c) (mY m c) g i := by
  rw [v10, U4_v7_4, R2.dbA]
  pointwise []
  show (∑ n ∈ Finset.range 8192, R2.gg (U3 m) c g.val n i.val) * R2.pA (U3 m) c 2 = _
  rw [← Fin.sum_univ_eq_sum_range (fun n => R2.gg (U3 m) c g.val n i.val), pA2, ← dbM_eq]
  exact congrArg (· * (rcp : EReal)) (Finset.sum_congr rfl fun j _ => by rw [gg_eq])
theorem res_dx : (StableHlo.after hostOps3 (U4 m c) main_v7_1 : Vec Ideal S4x8192x1152 .bf16) (ix3 g i d) = dxM (mT m c) (mB m c) (mX m c) (mY m c) g i d := by
  rw [StableHlo.after_of_writes_sub hostOps3 _ hostOps3_writes (r := main_v7_1) (by decide), U4_v7_1, R2.dxA]
  show R2.pA (U3 m) c 0 * R2.pA (U3 m) c 2 * ∑ n ∈ Finset.range 8192, R2.ytA (U3 m) c g.val d n * R2.gg (U3 m) c g.val n i.val = _
  rw [← Fin.sum_univ_eq_sum_range (fun n => R2.ytA (U3 m) c g.val d n * R2.gg (U3 m) c g.val n i.val), pA0, pA2, ← dxM_eq]
  exact congrArg (mT m c * (rcp : EReal) * ·) (Finset.sum_congr rfl fun j _ => by rw [gg_eq, ytA_eq])
theorem res_dy : (StableHlo.after hostOps3 (U4 m c) main_v7_2 : Vec Ideal S4x8192x1152 .bf16) (ix3 g j d) = dyM (mT m c) (mB m c) (mX m c) (mY m c) g j d := by
  rw [StableHlo.after_of_writes_sub hostOps3 _ hostOps3_writes (r := main_v7_2) (by decide), U4_v7_2, R2.dyA]
  show R2.pA (U3 m) c 0 * R2.pA (U3 m) c 2 * ∑ n ∈ Finset.range 8192, R2.xA (U3 m) c g.val d n * R2.gg (U3 m) c g.val j.val n = _
  rw [← Fin.sum_univ_eq_sum_range (fun n => R2.xA (U3 m) c g.val d n * R2.gg (U3 m) c g.val j.val n), pA0, pA2, ← dyM_eq]
  exact congrArg (mT m c * (rcp : EReal) * ·) (Finset.sum_congr rfl fun j _ => by rw [gg_eq, xA_eq])

end Cert.KernelIdeal.Hand
-- ==== Proof.Join.lean ====
/-
  The two programs' results side by side: from equal arguments the idealized kernel and the idealized reference leave
  equal arrays, all five of them.
-/
module

public import proofs.«01_k».proof.Defs
public import proofs.«01_k».proof.Proof.KernelIdeal.Results
public import proofs.«01_k».proof.Proof.ReferenceIdeal.Values

@[expose] public section

set_option maxRecDepth 16384

noncomputable section

namespace Cert.Join

open Idealize.ShloMosaic Idealize.ShloMosaic.TcCoe Idealize.SL.Sem
open Siglip

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The two programs are started on the same six arguments. -/
def Same (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)

variable {m m'} {c : Dev KernelIdeal.nD}

/-- Equal arguments give equal operands and parameters. -/
theorem mX_eq (h : Same m m' c) : ReferenceIdeal.Hand.mX m' c = KernelIdeal.Hand.mX m c := by
  have h0 : ReferenceIdeal.Hand.aXc m' c = KernelIdeal.Hand.aXc m c := h.1
  have h1 : ReferenceIdeal.Hand.aXs m' c = KernelIdeal.Hand.aXs m c := h.2.1
  funext g i d
  unfold ReferenceIdeal.Hand.mX KernelIdeal.Hand.mX
  rw [h0, h1]
theorem mY_eq (h : Same m m' c) : ReferenceIdeal.Hand.mY m' c = KernelIdeal.Hand.mY m c := by
  have h0 : ReferenceIdeal.Hand.aYc m' c = KernelIdeal.Hand.aYc m c := h.2.2.1
  have h1 : ReferenceIdeal.Hand.aYs m' c = KernelIdeal.Hand.aYs m c := h.2.2.2.1
  funext g i d
  unfold ReferenceIdeal.Hand.mY KernelIdeal.Hand.mY
  rw [h0, h1]
theorem mT_eq (h : Same m m' c) : ReferenceIdeal.Hand.mT m' c = KernelIdeal.Hand.mT m c := by
  have h0 : ReferenceIdeal.Hand.aT m' c = KernelIdeal.Hand.aT m c := h.2.2.2.2.1
  unfold ReferenceIdeal.Hand.mT KernelIdeal.Hand.mT
  rw [h0]
theorem mB_eq (h : Same m m' c) : ReferenceIdeal.Hand.mB m' c = KernelIdeal.Hand.mB m c := by
  have h0 : ReferenceIdeal.Hand.aB m' c = KernelIdeal.Hand.aB m c := h.2.2.2.2.2
  unfold ReferenceIdeal.Hand.mB KernelIdeal.Hand.mB
  rw [h0]

/-- Two arrays over (group, row) that hold the same mathematics are equal. -/
theorem ext2 {G H : Vec Ideal KernelIdeal.S4x8192 .f32} {f f' : Fin 4 → Fin 8192 → EReal}
    (hG : ∀ g i, G (ix2 g i) = f g i) (hH : ∀ g i, H (ix2 g i) = f' g i) (hf : f = f') : G = H := by
  subst hf
  funext y
  obtain ⟨a, b, rfl⟩ : ∃ (a : Fin 4) (b : Fin 8192), y = ix2 a b := ⟨y 0, y 1, eq_ix2 y⟩
  exact (hG a b).trans (hH a b).symm
/-- Two arrays over (group, row, feature) that hold the same mathematics are equal. -/
theorem ext3 {G H : Vec Ideal KernelIdeal.S4x8192x1152 .bf16} {f f' : Fin 4 → Fin 8192 → Fin 1152 → EReal}
    (hG : ∀ g i d, G (ix3 g i d) = f g i d) (hH : ∀ g i d, H (ix3 g i d) = f' g i d) (hf : f = f') : G = H := by
  subst hf
  funext y
  obtain ⟨a, b, e, rfl⟩ : ∃ (a : Fin 4) (b : Fin 8192) (e : Fin 1152), y = ix3 a b e := ⟨y 0, y 1, y 2, eq_ix3 y⟩
  exact (hG a b e).trans (hH a b e).symm

/-- From equal arguments, both programs end with the same loss, dx, dy, dt and db, their arguments unchanged. -/
theorem algebraic : Cert.algebraic_KernelIdeal_ReferenceIdeal (hKernelIdeal := KernelIdeal.Gen.facts) (hReferenceIdeal := ReferenceIdeal.Gen.facts) := by
  intro m g m' g' _ h
  refine ⟨fun c => StableHlo.after KernelIdeal.Gen.hostOps3 (KernelIdeal.Hand.U4 m c) KernelIdeal.main_v8,
    fun c => StableHlo.after KernelIdeal.Gen.hostOps3 (KernelIdeal.Hand.U4 m c) KernelIdeal.main_v7_1,
    fun c => StableHlo.after KernelIdeal.Gen.hostOps3 (KernelIdeal.Hand.U4 m c) KernelIdeal.main_v7_2,
    fun c => StableHlo.after KernelIdeal.Gen.hostOps3 (KernelIdeal.Hand.U4 m c) KernelIdeal.main_v9,
    fun c => StableHlo.after KernelIdeal.Gen.hostOps3 (KernelIdeal.Hand.U4 m c) KernelIdeal.main_v10, ?_, ?_⟩
  · refine (θ_run _ _ _).mono (fun r hr c => ?_) (KernelIdeal.Hand.run_all m g)
    have e := KernelIdeal.Hand.V5_eq m c
    exact ⟨(hr.1 c KernelIdeal.main_v8 (by decide)).trans (congrFun e _),
      (hr.1 c KernelIdeal.main_v7_1 (by decide)).trans (congrFun e _),
      (hr.1 c KernelIdeal.main_v7_2 (by decide)).trans (congrFun e _),
      (hr.1 c KernelIdeal.main_v9 (by decide)).trans (congrFun e _),
      (hr.1 c KernelIdeal.main_v10 (by decide)).trans (congrFun e _),
      (hr.1 c KernelIdeal.main_arg0 (by decide)).trans (KernelIdeal.Gen.V5_main_arg0 m _ c),
      (hr.1 c KernelIdeal.main_arg1 (by decide)).trans (KernelIdeal.Gen.V5_main_arg1 m _ c),
      (hr.1 c KernelIdeal.main_arg2 (by decide)).trans (KernelIdeal.Gen.V5_main_arg2 m _ c),
      (hr.1 c KernelIdeal.main_arg3 (by decide)).trans (KernelIdeal.Gen.V5_main_arg3 m _ c),
      (hr.1 c KernelIdeal.main_arg4 (by decide)).trans (KernelIdeal.Gen.V5_main_arg4 m _ c),
      (hr.1 c KernelIdeal.main_arg5 (by decide)).trans (KernelIdeal.Gen.V5_main_arg5 m _ c)⟩
  · refine (θ_run _ _ _).mono (fun r hr c => ?_) (ReferenceIdeal.Hand.run m' g')
    obtain ⟨h17, h37, h41, h31, h32, hargs⟩ := hr c
    have hx := mX_eq (h c)
    have hy := mY_eq (h c)
    have ht := mT_eq (h c)
    have hb := mB_eq (h c)
    exact ⟨ext2 h17 (fun g i => KernelIdeal.Hand.res_loss m c g i) (by rw [hx, hy, ht, hb]),
      ext3 h37 (fun g i d => KernelIdeal.Hand.res_dx m c g i d) (by rw [hx, hy, ht, hb]),
      ext3 h41 (fun g j d => KernelIdeal.Hand.res_dy m c g j d) (by rw [hx, hy, ht, hb]),
      ext2 h31 (fun g i => KernelIdeal.Hand.res_dt m c g i) (by rw [hx, hy, ht, hb]),
      ext2 h32 (fun g i => KernelIdeal.Hand.res_db m c g i) (by rw [hx, hy, ht, hb]), hargs⟩

end Cert.Join

end
-- ==== Proof.lean ====
/-
  The proof of the certificate's claims. The frames of the kernel and of its idealization come from the run of the whole
  program (Proof/Kernel/Run.lean, Proof/KernelIdeal/Run.lean); the reference's frame is the generated one. That the
  idealized kernel and the idealized reference compute the same five arrays is Proof/Join.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Run
public import proofs.«01_k».proof.Proof.KernelIdeal.Run
public import proofs.«01_k».proof.Proof.ReferenceIdeal.Values
public import proofs.«01_k».proof.Proof.Join
public import Idealize.ShloMosaic.Adequacy
public import Idealize.ShloMosaic.Init

@[expose] public section

noncomputable section

namespace Cert.Proof

open Idealize.ShloMosaic Idealize.SL.Sem Cert.Kernel

/-- The claims: the three frames, that the idealized kernel is the kernel with its constants named, and that the
    idealized kernel and the idealized reference end with equal results. -/
theorem claim : Cert.Claim := ⟨Cert.Kernel.Gen.facts, Cert.KernelIdeal.Gen.facts, Cert.ReferenceIdeal.Gen.facts,
  fun m g _ => Cert.Kernel.Hand.frame m g,
  fun m g _ => Cert.KernelIdeal.Hand.frame m g,
  fun m g _ => Cert.ReferenceIdeal.Gen.frame m g,
  ⟨IdealRules.named_const.statement Cert.KernelIdeal.κ "neg_log2e" .f32 0xBFB8AA3B#32 ((-((Real.log 2)⁻¹) : ℝ) : EReal) rfl,
   IdealRules.named_const.statement Cert.KernelIdeal.κ "log2e" .f32 0x3FB8AA3B#32 (((Real.log 2)⁻¹ : ℝ) : EReal) rfl,
   IdealRules.named_const.statement Cert.KernelIdeal.κ "ln2" .f32 0x3F317218#32 ((Real.log 2 : ℝ) : EReal) rfl⟩,
  Cert.Join.algebraic⟩

end Cert.Proof

end
